-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x384x56x56 : Shape := ⟨4, ![16, 384, 56, 56]⟩
abbrev S16x56x56x384 : Shape := ⟨4, ![16, 56, 56, 384]⟩
abbrev S50176x384 : Shape := ⟨2, ![50176, 384]⟩
abbrev S2x32x384 : Shape := ⟨3, ![2, 32, 384]⟩
abbrev S_ : Shape := ⟨0, ![]⟩
abbrev S16 : Shape := ⟨1, ![16]⟩
abbrev S1x32x384 : Shape := ⟨3, ![1, 32, 384]⟩
abbrev S32x384 : Shape := ⟨2, ![32, 384]⟩
abbrev S1x16 : Shape := ⟨2, ![1, 16]⟩

abbrev nBuf : Table → Nat
  | .hbm => 9
  | .local .scVector .vmem => 3
  | _ => 0

abbrev bufTy : (tb : Table) → Fin (nBuf tb) → BufTy
  | .hbm, ⟨0, _⟩ => ⟨S16x384x56x56, .f32⟩
  | .hbm, ⟨1, _⟩ => ⟨S16x384x56x56, .f32⟩
  | .hbm, ⟨2, _⟩ => ⟨S16x56x56x384, .f32⟩
  | .hbm, ⟨3, _⟩ => ⟨S50176x384, .f32⟩
  | .hbm, ⟨4, _⟩ => ⟨S16x56x56x384, .f32⟩
  | .hbm, ⟨5, _⟩ => ⟨S50176x384, .f32⟩
  | .hbm, ⟨6, _⟩ => ⟨S50176x384, .f32⟩
  | .hbm, ⟨7, _⟩ => ⟨S16x56x56x384, .f32⟩
  | .hbm, ⟨8, _⟩ => ⟨S16x384x56x56, .f32⟩
  | .local .scVector .vmem, ⟨0, _⟩ => ⟨S2x32x384, .f32⟩
  | .local .scVector .vmem, ⟨1, _⟩ => ⟨S2x32x384, .f32⟩
  | .local .scVector .vmem, ⟨2, _⟩ => ⟨S2x32x384, .f32⟩
  | _, _ => ⟨S16x384x56x56, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_23 : BitVec 32 := 0#32
  let v78 : BitVec 32 := Scalar.addi v2 c0_i32_23
  let c0_i32_27 : BitVec 32 := 0#32
  ![v78.toNat, 0]
@[reducible] def k0_t1_loop : Scf.Loop 32 :=
  let c0_i32_39 : BitVec 32 := 0#32
  let c24_i32 : BitVec 32 := 24#32
  let v91 : BitVec 32 := Scalar.addi c0_i32_39 c24_i32
  let c1_i32_40 : BitVec 32 := 1#32
  ⟨c0_i32_39, v91, c1_i32_40⟩
def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c0_i32_95 : BitVec 32 := 0#32
  let v135 : BitVec 32 := Scalar.addi v134 c0_i32_95
  let c32_i32_96 : BitVec 32 := 32#32
  let v136 : BitVec 32 := Scalar.muli v135 c32_i32_96
  let v137 : BitVec 32 := Scalar.addi v2 v136
  let c0_i32_100 : BitVec 32 := 0#32
  ![v137.toNat, 0]
def k0_cond1 (k0_t1 : Fin k0_t1_loop.trips) : BitVec 1 :=
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c0_i32_95 : BitVec 32 := 0#32
  let v135 : BitVec 32 := Scalar.addi v134 c0_i32_95
  let c2_i32_111 : BitVec 32 := 2#32
  let v150 : BitVec 32 := Scalar.addi v135 c2_i32_111
  let c1_i32_112 : BitVec 32 := 1#32
  let v151 : BitVec 32 := Scalar.subi v150 c1_i32_112
  let c49_i32 : BitVec 32 := 49#32
  let v152 : BitVec 1 := Scalar.cmpi .slt v151 c49_i32
  let v153 : BitVec 32 := Scalar.extui v152
  let c0_i32_113 : BitVec 32 := 0#32
  let v154 : BitVec 1 := Scalar.cmpi .ne v153 c0_i32_113
  v154

def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c0_i32_95 : BitVec 32 := 0#32
  let v135 : BitVec 32 := Scalar.addi v134 c0_i32_95
  let c2_i32_111 : BitVec 32 := 2#32
  let v150 : BitVec 32 := Scalar.addi v135 c2_i32_111
  let c1_i32_112 : BitVec 32 := 1#32
  let v151 : BitVec 32 := Scalar.subi v150 c1_i32_112
  let c32_i32_170 : BitVec 32 := 32#32
  let v199 : BitVec 32 := Scalar.muli v151 c32_i32_170
  let v200 : BitVec 32 := Scalar.addi v2 v199
  let c0_i32_174 : BitVec 32 := 0#32
  ![v200.toNat, 0]
def k0_cond2 (k0_t1 : Fin k0_t1_loop.trips) : BitVec 1 :=
  let c0_i32_39 : BitVec 32 := 0#32
  let c1_i32_40 : BitVec 32 := 1#32
  let arg14 : BitVec 32 := Scf.iv c0_i32_39 c1_i32_40 k0_t1
  let c0_i32_114 : BitVec 32 := 0#32
  let v155 : BitVec 1 := Scalar.cmpi .sgt arg14 c0_i32_114
  let v156 : BitVec 32 := Scalar.extui v155
  let c0_i32_115 : BitVec 32 := 0#32
  let v157 : BitVec 1 := Scalar.cmpi .ne v156 c0_i32_115
  v157

def k0_off4 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c0_i32_95 : BitVec 32 := 0#32
  let v135 : BitVec 32 := Scalar.addi v134 c0_i32_95
  let c2_i32_170 : BitVec 32 := 2#32
  let v199 : BitVec 32 := Scalar.subi v135 c2_i32_170
  let c32_i32_171 : BitVec 32 := 32#32
  let v200 : BitVec 32 := Scalar.muli v199 c32_i32_171
  let v201 : BitVec 32 := Scalar.addi v2 v200
  let c0_i32_175 : BitVec 32 := 0#32
  ![v201.toNat, 0]
@[reducible] def k0_t2_loop : Scf.Loop 32 :=
  let c0_i32_120 : BitVec 32 := 0#32
  let c16_i32_121 : BitVec 32 := 16#32
  let v158 : BitVec 32 := Scalar.addi c0_i32_120 c16_i32_121
  let c1_i32_122 : BitVec 32 := 1#32
  ⟨c0_i32_120, v158, c1_i32_122⟩
def k0_off5 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v207 : Index := Scalar.indexCast v200
  let c0 : Index := 0#32
  ![v207.toNat, 0]
def k0_off6 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v214 : Index := Scalar.indexCast v200
  let c16 : Index := 16#32
  ![v214.toNat, 16]
def k0_off7 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v221 : Index := Scalar.indexCast v200
  let c32 : Index := 32#32
  ![v221.toNat, 32]
def k0_off8 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v228 : Index := Scalar.indexCast v200
  let c48 : Index := 48#32
  ![v228.toNat, 48]
def k0_off9 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v235 : Index := Scalar.indexCast v200
  let c64 : Index := 64#32
  ![v235.toNat, 64]
def k0_off10 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v242 : Index := Scalar.indexCast v200
  let c80 : Index := 80#32
  ![v242.toNat, 80]
def k0_off11 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v249 : Index := Scalar.indexCast v200
  let c96 : Index := 96#32
  ![v249.toNat, 96]
def k0_off12 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v256 : Index := Scalar.indexCast v200
  let c112 : Index := 112#32
  ![v256.toNat, 112]
def k0_off13 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v263 : Index := Scalar.indexCast v200
  let c128 : Index := 128#32
  ![v263.toNat, 128]
def k0_off14 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v270 : Index := Scalar.indexCast v200
  let c144 : Index := 144#32
  ![v270.toNat, 144]
def k0_off15 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v277 : Index := Scalar.indexCast v200
  let c160 : Index := 160#32
  ![v277.toNat, 160]
def k0_off16 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v284 : Index := Scalar.indexCast v200
  let c176 : Index := 176#32
  ![v284.toNat, 176]
def k0_off17 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v291 : Index := Scalar.indexCast v200
  let c192 : Index := 192#32
  ![v291.toNat, 192]
def k0_off18 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v298 : Index := Scalar.indexCast v200
  let c208 : Index := 208#32
  ![v298.toNat, 208]
def k0_off19 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v305 : Index := Scalar.indexCast v200
  let c224 : Index := 224#32
  ![v305.toNat, 224]
def k0_off20 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v312 : Index := Scalar.indexCast v200
  let c240 : Index := 240#32
  ![v312.toNat, 240]
def k0_off21 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v319 : Index := Scalar.indexCast v200
  let c256 : Index := 256#32
  ![v319.toNat, 256]
def k0_off22 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v326 : Index := Scalar.indexCast v200
  let c272 : Index := 272#32
  ![v326.toNat, 272]
def k0_off23 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v333 : Index := Scalar.indexCast v200
  let c288 : Index := 288#32
  ![v333.toNat, 288]
def k0_off24 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v340 : Index := Scalar.indexCast v200
  let c304 : Index := 304#32
  ![v340.toNat, 304]
def k0_off25 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v347 : Index := Scalar.indexCast v200
  let c320 : Index := 320#32
  ![v347.toNat, 320]
def k0_off26 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v354 : Index := Scalar.indexCast v200
  let c336 : Index := 336#32
  ![v354.toNat, 336]
def k0_off27 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v361 : Index := Scalar.indexCast v200
  let c352 : Index := 352#32
  ![v361.toNat, 352]

def k0_chk1 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) : Prop :=
  (∀ a x, ((![v201, v7] : Fin 2 → IVec S16 32) a x).toNat < S32x384.size a) ∧
  (∀ a x, ((![v201, v9] : Fin 2 → IVec S16 32) a x).toNat < S32x384.size a) ∧
  (∀ a x, ((![v201, v11] : Fin 2 → IVec S16 32) a x).toNat < S32x384.size a) ∧
  (∀ a x, ((![v201, v13] : Fin 2 → IVec S16 32) a x).toNat < S32x384.size a) ∧
  (∀ a x, ((![v201, v15] : Fin 2 → IVec S16 32) a x).toNat < S32x384.size a) ∧
  (∀ a x, ((![v201, v17] : Fin 2 → IVec S16 32) a x).toNat < S32x384.size a) ∧
  (∀ a x, ((![v201, v19] : Fin 2 → IVec S16 32) a x).toNat < S32x384.size a) ∧
  (∀ a x, ((![v201, v21] : Fin 2 → IVec S16 32) a x).toNat < S32x384.size a) ∧
  (∀ a x, ((![v201, v23] : Fin 2 → IVec S16 32) a x).toNat < S32x384.size a) ∧
  (∀ a x, ((![v201, v25] : Fin 2 → IVec S16 32) a x).toNat < S32x384.size a) ∧
  (∀ a x, ((![v201, v27] : Fin 2 → IVec S16 32) a x).toNat < S32x384.size a) ∧
  (∀ a x, ((![v201, v29] : Fin 2 → IVec S16 32) a x).toNat < S32x384.size a) ∧
  (∀ a x, ((![v201, v33] : Fin 2 → IVec S16 32) a x).toNat < S32x384.size a) ∧
  (∀ a x, ((![v201, v37] : Fin 2 → IVec S16 32) a x).toNat < S32x384.size a) ∧
  (∀ a x, ((![v201, v41] : Fin 2 → IVec S16 32) a x).toNat < S32x384.size a) ∧
  (∀ a x, ((![v201, v45] : Fin 2 → IVec S16 32) a x).toNat < S32x384.size a) ∧
  (∀ a x, ((![v201, v49] : Fin 2 → IVec S16 32) a x).toNat < S32x384.size a) ∧
  (∀ a x, ((![v201, v53] : Fin 2 → IVec S16 32) a x).toNat < S32x384.size a) ∧
  (∀ a x, ((![v201, v57] : Fin 2 → IVec S16 32) a x).toNat < S32x384.size a) ∧
  (∀ a x, ((![v201, v61] : Fin 2 → IVec S16 32) a x).toNat < S32x384.size a) ∧
  (∀ a x, ((![v201, v65] : Fin 2 → IVec S16 32) a x).toNat < S32x384.size a) ∧
  (∀ a x, ((![v201, v69] : Fin 2 → IVec S16 32) a x).toNat < S32x384.size a) ∧
  (∀ a x, ((![v201, v73] : Fin 2 → IVec S16 32) a x).toNat < S32x384.size a) ∧
  (∀ a x, ((![v201, v77] : Fin 2 → IVec S16 32) a x).toNat < S32x384.size a)
theorem k0_idx1_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v7] : Fin 2 → IVec S16 32) a x).toNat < S32x384.size a := fun v7 v9 v11 v13 v15 v17 v19 v21 v23 v25 v27 v29 v33 v37 v41 v45 v49 v53 v57 v61 v65 v69 v73 v77 v201 k0_hw1 => k0_hw1.1
theorem k0_idx2_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v9] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.1
theorem k0_idx3_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v11] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.1
theorem k0_idx4_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v13] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.1
theorem k0_idx5_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v15] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.1
theorem k0_idx6_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v17] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.1
theorem k0_idx7_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v19] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.1
theorem k0_idx8_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v21] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.1
theorem k0_idx9_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v23] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.1
theorem k0_idx10_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v25] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.1
theorem k0_idx11_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v27] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.1
theorem k0_idx12_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v29] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.1
theorem k0_idx13_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v33] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.1
theorem k0_idx14_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v37] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.1
theorem k0_idx15_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v41] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.1
theorem k0_idx16_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v45] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.1
theorem k0_idx17_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v49] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.1
theorem k0_idx18_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v53] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.1
theorem k0_idx19_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v57] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.1
theorem k0_idx20_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v61] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.2.1
theorem k0_idx21_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v65] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.2.2.1
theorem k0_idx22_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v69] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.2.2.2.1
theorem k0_idx23_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v73] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.2.2.2.2.1
theorem k0_idx24_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw1 : k0_chk1 v7 v9 v11 v13 v15 v17 v19 v21 v23 v25 v27 v29 v33 v37 v41 v45 v49 v53 v57 v61 v65 v69 v73 v77 v201), ∀ a x, ((![v201, v77] : Fin 2 → IVec S16 32) a x).toNat < S32x384.size a := fun v7 v9 v11 v13 v15 v17 v19 v21 v23 v25 v27 v29 v33 v37 v41 v45 v49 v53 v57 v61 v65 v69 v73 v77 v201 k0_hw1 => k0_hw1.2.2.2.2.2.2.2.2.2.2.2.2.2.2.2.2.2.2.2.2.2.2.2
def k0_off28 (k0_t2 : Fin k0_t2_loop.trips) : Fin 2 → Nat :=
  let c2_i32_170 : BitVec 32 := 2#32
  let c0_i32_120 : BitVec 32 := 0#32
  let c1_i32_122 : BitVec 32 := 1#32
  let arg15 : BitVec 32 := Scf.iv c0_i32_120 c1_i32_122 k0_t2
  let v199 : BitVec 32 := Scalar.muli c2_i32_170 arg15
  let c0_i32_171 : BitVec 32 := 0#32
  let v200 : BitVec 32 := Scalar.addi v199 c0_i32_171
  let v368 : Index := Scalar.indexCast v200
  let c368 : Index := 368#32
  ![v368.toNat, 368]
def k0_off29 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v378 : Index := Scalar.indexCast v371
  let c0_274 : Index := 0#32
  ![v378.toNat, 0]
def k0_off30 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v385 : Index := Scalar.indexCast v371
  let c16_279 : Index := 16#32
  ![v385.toNat, 16]
def k0_off31 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v392 : Index := Scalar.indexCast v371
  let c32_284 : Index := 32#32
  ![v392.toNat, 32]
def k0_off32 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v399 : Index := Scalar.indexCast v371
  let c48_289 : Index := 48#32
  ![v399.toNat, 48]
def k0_off33 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v406 : Index := Scalar.indexCast v371
  let c64_294 : Index := 64#32
  ![v406.toNat, 64]
def k0_off34 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v413 : Index := Scalar.indexCast v371
  let c80_299 : Index := 80#32
  ![v413.toNat, 80]
def k0_off35 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v420 : Index := Scalar.indexCast v371
  let c96_304 : Index := 96#32
  ![v420.toNat, 96]
def k0_off36 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v427 : Index := Scalar.indexCast v371
  let c112_309 : Index := 112#32
  ![v427.toNat, 112]
def k0_off37 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v434 : Index := Scalar.indexCast v371
  let c128_314 : Index := 128#32
  ![v434.toNat, 128]
def k0_off38 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v441 : Index := Scalar.indexCast v371
  let c144_319 : Index := 144#32
  ![v441.toNat, 144]
def k0_off39 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v448 : Index := Scalar.indexCast v371
  let c160_324 : Index := 160#32
  ![v448.toNat, 160]
def k0_off40 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v455 : Index := Scalar.indexCast v371
  let c176_329 : Index := 176#32
  ![v455.toNat, 176]
def k0_off41 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v462 : Index := Scalar.indexCast v371
  let c192_334 : Index := 192#32
  ![v462.toNat, 192]
def k0_off42 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v469 : Index := Scalar.indexCast v371
  let c208_339 : Index := 208#32
  ![v469.toNat, 208]
def k0_off43 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v476 : Index := Scalar.indexCast v371
  let c224_344 : Index := 224#32
  ![v476.toNat, 224]
def k0_off44 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v483 : Index := Scalar.indexCast v371
  let c240_349 : Index := 240#32
  ![v483.toNat, 240]
def k0_off45 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v490 : Index := Scalar.indexCast v371
  let c256_354 : Index := 256#32
  ![v490.toNat, 256]
def k0_off46 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v497 : Index := Scalar.indexCast v371
  let c272_359 : Index := 272#32
  ![v497.toNat, 272]
def k0_off47 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v504 : Index := Scalar.indexCast v371
  let c288_364 : Index := 288#32
  ![v504.toNat, 288]
def k0_off48 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v511 : Index := Scalar.indexCast v371
  let c304_369 : Index := 304#32
  ![v511.toNat, 304]
def k0_off49 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v518 : Index := Scalar.indexCast v371
  let c320_374 : Index := 320#32
  ![v518.toNat, 320]
def k0_off50 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v525 : Index := Scalar.indexCast v371
  let c336_379 : Index := 336#32
  ![v525.toNat, 336]
def k0_off51 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v532 : Index := Scalar.indexCast v371
  let c352_384 : Index := 352#32
  ![v532.toNat, 352]

def k0_chk2 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) : Prop :=
  (∀ a x, ((![v372, v7] : Fin 2 → IVec S16 32) a x).toNat < S32x384.size a) ∧
  (∀ a x, ((![v372, v9] : Fin 2 → IVec S16 32) a x).toNat < S32x384.size a) ∧
  (∀ a x, ((![v372, v11] : Fin 2 → IVec S16 32) a x).toNat < S32x384.size a) ∧
  (∀ a x, ((![v372, v13] : Fin 2 → IVec S16 32) a x).toNat < S32x384.size a) ∧
  (∀ a x, ((![v372, v15] : Fin 2 → IVec S16 32) a x).toNat < S32x384.size a) ∧
  (∀ a x, ((![v372, v17] : Fin 2 → IVec S16 32) a x).toNat < S32x384.size a) ∧
  (∀ a x, ((![v372, v19] : Fin 2 → IVec S16 32) a x).toNat < S32x384.size a) ∧
  (∀ a x, ((![v372, v21] : Fin 2 → IVec S16 32) a x).toNat < S32x384.size a) ∧
  (∀ a x, ((![v372, v23] : Fin 2 → IVec S16 32) a x).toNat < S32x384.size a) ∧
  (∀ a x, ((![v372, v25] : Fin 2 → IVec S16 32) a x).toNat < S32x384.size a) ∧
  (∀ a x, ((![v372, v27] : Fin 2 → IVec S16 32) a x).toNat < S32x384.size a) ∧
  (∀ a x, ((![v372, v29] : Fin 2 → IVec S16 32) a x).toNat < S32x384.size a) ∧
  (∀ a x, ((![v372, v33] : Fin 2 → IVec S16 32) a x).toNat < S32x384.size a) ∧
  (∀ a x, ((![v372, v37] : Fin 2 → IVec S16 32) a x).toNat < S32x384.size a) ∧
  (∀ a x, ((![v372, v41] : Fin 2 → IVec S16 32) a x).toNat < S32x384.size a) ∧
  (∀ a x, ((![v372, v45] : Fin 2 → IVec S16 32) a x).toNat < S32x384.size a) ∧
  (∀ a x, ((![v372, v49] : Fin 2 → IVec S16 32) a x).toNat < S32x384.size a) ∧
  (∀ a x, ((![v372, v53] : Fin 2 → IVec S16 32) a x).toNat < S32x384.size a) ∧
  (∀ a x, ((![v372, v57] : Fin 2 → IVec S16 32) a x).toNat < S32x384.size a) ∧
  (∀ a x, ((![v372, v61] : Fin 2 → IVec S16 32) a x).toNat < S32x384.size a) ∧
  (∀ a x, ((![v372, v65] : Fin 2 → IVec S16 32) a x).toNat < S32x384.size a) ∧
  (∀ a x, ((![v372, v69] : Fin 2 → IVec S16 32) a x).toNat < S32x384.size a) ∧
  (∀ a x, ((![v372, v73] : Fin 2 → IVec S16 32) a x).toNat < S32x384.size a) ∧
  (∀ a x, ((![v372, v77] : Fin 2 → IVec S16 32) a x).toNat < S32x384.size a)
theorem k0_idx25_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v7] : Fin 2 → IVec S16 32) a x).toNat < S32x384.size a := fun v7 v9 v11 v13 v15 v17 v19 v21 v23 v25 v27 v29 v33 v37 v41 v45 v49 v53 v57 v61 v65 v69 v73 v77 v372 k0_hw2 => k0_hw2.1
theorem k0_idx26_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v9] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.1
theorem k0_idx27_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v11] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.1
theorem k0_idx28_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v13] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.1
theorem k0_idx29_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v15] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.1
theorem k0_idx30_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v17] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.1
theorem k0_idx31_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v19] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.1
theorem k0_idx32_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v21] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.1
theorem k0_idx33_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v23] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.1
theorem k0_idx34_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v25] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.1
theorem k0_idx35_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v27] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.1
theorem k0_idx36_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v29] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.1
theorem k0_idx37_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v33] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.1
theorem k0_idx38_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v37] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.1
theorem k0_idx39_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v41] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.1
theorem k0_idx40_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v45] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.1
theorem k0_idx41_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v49] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.1
theorem k0_idx42_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v53] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.1
theorem k0_idx43_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v57] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.1
theorem k0_idx44_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v61] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.2.1
theorem k0_idx45_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v65] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.2.2.1
theorem k0_idx46_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v69] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.2.2.2.1
theorem k0_idx47_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v73] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.2.2.2.2.1
theorem k0_idx48_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw2 : k0_chk2 v7 v9 v11 v13 v15 v17 v19 v21 v23 v25 v27 v29 v33 v37 v41 v45 v49 v53 v57 v61 v65 v69 v73 v77 v372), ∀ a x, ((![v372, v77] : Fin 2 → IVec S16 32) a x).toNat < S32x384.size a := fun v7 v9 v11 v13 v15 v17 v19 v21 v23 v25 v27 v29 v33 v37 v41 v45 v49 v53 v57 v61 v65 v69 v73 v77 v372 k0_hw2 => k0_hw2.2.2.2.2.2.2.2.2.2.2.2.2.2.2.2.2.2.2.2.2.2.2.2
def k0_off52 (k0_t2 : Fin k0_t2_loop.trips) : Fin 2 → Nat :=
  let c2_i32_268 : BitVec 32 := 2#32
  let c0_i32_120 : BitVec 32 := 0#32
  let c1_i32_122 : BitVec 32 := 1#32
  let arg15 : BitVec 32 := Scf.iv c0_i32_120 c1_i32_122 k0_t2
  let v370 : BitVec 32 := Scalar.muli c2_i32_268 arg15
  let c1_i32_269 : BitVec 32 := 1#32
  let v371 : BitVec 32 := Scalar.addi v370 c1_i32_269
  let v539 : Index := Scalar.indexCast v371
  let c368_389 : Index := 368#32
  ![v539.toNat, 368]
def k0_off53 (i : grid0.Coords) (k0_t1 : Fin k0_t1_loop.trips) (c0_i32_95 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let v135 : BitVec 32 := Scalar.addi v134 c0_i32_95
  let c32_i32_124 : BitVec 32 := 32#32
  let v159 : BitVec 32 := Scalar.muli v135 c32_i32_124
  let v160 : BitVec 32 := Scalar.addi v2 v159
  let c0_i32_128 : BitVec 32 := 0#32
  ![v160.toNat, 0]
def k0_cond3 (k0_t1 : Fin k0_t1_loop.trips) : BitVec 1 :=
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c1_i32_132 : BitVec 32 := 1#32
  let v167 : BitVec 32 := Scalar.addi v134 c1_i32_132
  let c2_i32_148 : BitVec 32 := 2#32
  let v182 : BitVec 32 := Scalar.addi v167 c2_i32_148
  let c1_i32_149 : BitVec 32 := 1#32
  let v183 : BitVec 32 := Scalar.subi v182 c1_i32_149
  let c49_i32_150 : BitVec 32 := 49#32
  let v184 : BitVec 1 := Scalar.cmpi .slt v183 c49_i32_150
  let v185 : BitVec 32 := Scalar.extui v184
  let c0_i32_151 : BitVec 32 := 0#32
  let v186 : BitVec 1 := Scalar.cmpi .ne v185 c0_i32_151
  v186

def k0_off54 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c1_i32_132 : BitVec 32 := 1#32
  let v167 : BitVec 32 := Scalar.addi v134 c1_i32_132
  let c2_i32_148 : BitVec 32 := 2#32
  let v182 : BitVec 32 := Scalar.addi v167 c2_i32_148
  let c1_i32_149 : BitVec 32 := 1#32
  let v183 : BitVec 32 := Scalar.subi v182 c1_i32_149
  let c32_i32_170 : BitVec 32 := 32#32
  let v199 : BitVec 32 := Scalar.muli v183 c32_i32_170
  let v200 : BitVec 32 := Scalar.addi v2 v199
  let c0_i32_174 : BitVec 32 := 0#32
  ![v200.toNat, 0]
def k0_cond4 (k0_t1 : Fin k0_t1_loop.trips) : BitVec 1 :=
  let c0_i32_39 : BitVec 32 := 0#32
  let c1_i32_40 : BitVec 32 := 1#32
  let arg14 : BitVec 32 := Scf.iv c0_i32_39 c1_i32_40 k0_t1
  let c0_i32_152 : BitVec 32 := 0#32
  let v187 : BitVec 1 := Scalar.cmpi .sgt arg14 c0_i32_152
  let v188 : BitVec 32 := Scalar.extui v187
  let c0_i32_153 : BitVec 32 := 0#32
  let v189 : BitVec 1 := Scalar.cmpi .ne v188 c0_i32_153
  v189

def k0_off55 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let c0_i32_39 : BitVec 32 := 0#32
  let c1_i32_40 : BitVec 32 := 1#32
  let arg14 : BitVec 32 := Scf.iv c0_i32_39 c1_i32_40 k0_t1
  let c2_i32_94 : BitVec 32 := 2#32
  let v134 : BitVec 32 := Scalar.muli arg14 c2_i32_94
  let c1_i32_132 : BitVec 32 := 1#32
  let v167 : BitVec 32 := Scalar.addi v134 c1_i32_132
  let c2_i32_170 : BitVec 32 := 2#32
  let v199 : BitVec 32 := Scalar.subi v167 c2_i32_170
  let c32_i32_171 : BitVec 32 := 32#32
  let v200 : BitVec 32 := Scalar.muli v199 c32_i32_171
  let v201 : BitVec 32 := Scalar.addi v2 v200
  let c0_i32_175 : BitVec 32 := 0#32
  ![v201.toNat, 0]
@[reducible] def k0_t3_loop : Scf.Loop 32 :=
  let c0_i32_158 : BitVec 32 := 0#32
  let c16_i32_159 : BitVec 32 := 16#32
  let v190 : BitVec 32 := Scalar.addi c0_i32_158 c16_i32_159
  let c1_i32_160 : BitVec 32 := 1#32
  ⟨c0_i32_158, v190, c1_i32_160⟩
def k0_off56 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v207 : Index := Scalar.indexCast v200
  let c0 : Index := 0#32
  ![v207.toNat, 0]
def k0_off57 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v214 : Index := Scalar.indexCast v200
  let c16 : Index := 16#32
  ![v214.toNat, 16]
def k0_off58 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v221 : Index := Scalar.indexCast v200
  let c32 : Index := 32#32
  ![v221.toNat, 32]
def k0_off59 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v228 : Index := Scalar.indexCast v200
  let c48 : Index := 48#32
  ![v228.toNat, 48]
def k0_off60 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v235 : Index := Scalar.indexCast v200
  let c64 : Index := 64#32
  ![v235.toNat, 64]
def k0_off61 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v242 : Index := Scalar.indexCast v200
  let c80 : Index := 80#32
  ![v242.toNat, 80]
def k0_off62 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v249 : Index := Scalar.indexCast v200
  let c96 : Index := 96#32
  ![v249.toNat, 96]
def k0_off63 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v256 : Index := Scalar.indexCast v200
  let c112 : Index := 112#32
  ![v256.toNat, 112]
def k0_off64 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v263 : Index := Scalar.indexCast v200
  let c128 : Index := 128#32
  ![v263.toNat, 128]
def k0_off65 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v270 : Index := Scalar.indexCast v200
  let c144 : Index := 144#32
  ![v270.toNat, 144]
def k0_off66 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v277 : Index := Scalar.indexCast v200
  let c160 : Index := 160#32
  ![v277.toNat, 160]
def k0_off67 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v284 : Index := Scalar.indexCast v200
  let c176 : Index := 176#32
  ![v284.toNat, 176]
def k0_off68 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v291 : Index := Scalar.indexCast v200
  let c192 : Index := 192#32
  ![v291.toNat, 192]
def k0_off69 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v298 : Index := Scalar.indexCast v200
  let c208 : Index := 208#32
  ![v298.toNat, 208]
def k0_off70 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v305 : Index := Scalar.indexCast v200
  let c224 : Index := 224#32
  ![v305.toNat, 224]
def k0_off71 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v312 : Index := Scalar.indexCast v200
  let c240 : Index := 240#32
  ![v312.toNat, 240]
def k0_off72 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v319 : Index := Scalar.indexCast v200
  let c256 : Index := 256#32
  ![v319.toNat, 256]
def k0_off73 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v326 : Index := Scalar.indexCast v200
  let c272 : Index := 272#32
  ![v326.toNat, 272]
def k0_off74 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v333 : Index := Scalar.indexCast v200
  let c288 : Index := 288#32
  ![v333.toNat, 288]
def k0_off75 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v340 : Index := Scalar.indexCast v200
  let c304 : Index := 304#32
  ![v340.toNat, 304]
def k0_off76 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v347 : Index := Scalar.indexCast v200
  let c320 : Index := 320#32
  ![v347.toNat, 320]
def k0_off77 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v354 : Index := Scalar.indexCast v200
  let c336 : Index := 336#32
  ![v354.toNat, 336]
def k0_off78 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v361 : Index := Scalar.indexCast v200
  let c352 : Index := 352#32
  ![v361.toNat, 352]

def k0_chk3 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) : Prop :=
  (∀ a x, ((![v201, v7] : Fin 2 → IVec S16 32) a x).toNat < S32x384.size a) ∧
  (∀ a x, ((![v201, v9] : Fin 2 → IVec S16 32) a x).toNat < S32x384.size a) ∧
  (∀ a x, ((![v201, v11] : Fin 2 → IVec S16 32) a x).toNat < S32x384.size a) ∧
  (∀ a x, ((![v201, v13] : Fin 2 → IVec S16 32) a x).toNat < S32x384.size a) ∧
  (∀ a x, ((![v201, v15] : Fin 2 → IVec S16 32) a x).toNat < S32x384.size a) ∧
  (∀ a x, ((![v201, v17] : Fin 2 → IVec S16 32) a x).toNat < S32x384.size a) ∧
  (∀ a x, ((![v201, v19] : Fin 2 → IVec S16 32) a x).toNat < S32x384.size a) ∧
  (∀ a x, ((![v201, v21] : Fin 2 → IVec S16 32) a x).toNat < S32x384.size a) ∧
  (∀ a x, ((![v201, v23] : Fin 2 → IVec S16 32) a x).toNat < S32x384.size a) ∧
  (∀ a x, ((![v201, v25] : Fin 2 → IVec S16 32) a x).toNat < S32x384.size a) ∧
  (∀ a x, ((![v201, v27] : Fin 2 → IVec S16 32) a x).toNat < S32x384.size a) ∧
  (∀ a x, ((![v201, v29] : Fin 2 → IVec S16 32) a x).toNat < S32x384.size a) ∧
  (∀ a x, ((![v201, v33] : Fin 2 → IVec S16 32) a x).toNat < S32x384.size a) ∧
  (∀ a x, ((![v201, v37] : Fin 2 → IVec S16 32) a x).toNat < S32x384.size a) ∧
  (∀ a x, ((![v201, v41] : Fin 2 → IVec S16 32) a x).toNat < S32x384.size a) ∧
  (∀ a x, ((![v201, v45] : Fin 2 → IVec S16 32) a x).toNat < S32x384.size a) ∧
  (∀ a x, ((![v201, v49] : Fin 2 → IVec S16 32) a x).toNat < S32x384.size a) ∧
  (∀ a x, ((![v201, v53] : Fin 2 → IVec S16 32) a x).toNat < S32x384.size a) ∧
  (∀ a x, ((![v201, v57] : Fin 2 → IVec S16 32) a x).toNat < S32x384.size a) ∧
  (∀ a x, ((![v201, v61] : Fin 2 → IVec S16 32) a x).toNat < S32x384.size a) ∧
  (∀ a x, ((![v201, v65] : Fin 2 → IVec S16 32) a x).toNat < S32x384.size a) ∧
  (∀ a x, ((![v201, v69] : Fin 2 → IVec S16 32) a x).toNat < S32x384.size a) ∧
  (∀ a x, ((![v201, v73] : Fin 2 → IVec S16 32) a x).toNat < S32x384.size a) ∧
  (∀ a x, ((![v201, v77] : Fin 2 → IVec S16 32) a x).toNat < S32x384.size a)
theorem k0_idx49_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v7] : Fin 2 → IVec S16 32) a x).toNat < S32x384.size a := fun v7 v9 v11 v13 v15 v17 v19 v21 v23 v25 v27 v29 v33 v37 v41 v45 v49 v53 v57 v61 v65 v69 v73 v77 v201 k0_hw3 => k0_hw3.1
theorem k0_idx50_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v9] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.1
theorem k0_idx51_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v11] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.1
theorem k0_idx52_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v13] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.1
theorem k0_idx53_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v15] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.1
theorem k0_idx54_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v17] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.1
theorem k0_idx55_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v19] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.1
theorem k0_idx56_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v21] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.1
theorem k0_idx57_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v23] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.1
theorem k0_idx58_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v25] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.1
theorem k0_idx59_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v27] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.1
theorem k0_idx60_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v29] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.1
theorem k0_idx61_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v33] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.1
theorem k0_idx62_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v37] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.1
theorem k0_idx63_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v41] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.1
theorem k0_idx64_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v45] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.1
theorem k0_idx65_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v49] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.1
theorem k0_idx66_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v53] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.1
theorem k0_idx67_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v57] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.1
theorem k0_idx68_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v61] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.2.1
theorem k0_idx69_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v65] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.2.2.1
theorem k0_idx70_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v69] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.2.2.2.1
theorem k0_idx71_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v73] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.2.2.2.2.1
theorem k0_idx72_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v201 : IVec S16 32) (k0_hw3 : k0_chk3 v7 v9 v11 v13 v15 v17 v19 v21 v23 v25 v27 v29 v33 v37 v41 v45 v49 v53 v57 v61 v65 v69 v73 v77 v201), ∀ a x, ((![v201, v77] : Fin 2 → IVec S16 32) a x).toNat < S32x384.size a := fun v7 v9 v11 v13 v15 v17 v19 v21 v23 v25 v27 v29 v33 v37 v41 v45 v49 v53 v57 v61 v65 v69 v73 v77 v201 k0_hw3 => k0_hw3.2.2.2.2.2.2.2.2.2.2.2.2.2.2.2.2.2.2.2.2.2.2.2
def k0_off79 (k0_t3 : Fin k0_t3_loop.trips) : Fin 2 → Nat :=
  let c2_i32_170 : BitVec 32 := 2#32
  let c0_i32_158 : BitVec 32 := 0#32
  let c1_i32_160 : BitVec 32 := 1#32
  let arg15 : BitVec 32 := Scf.iv c0_i32_158 c1_i32_160 k0_t3
  let v199 : BitVec 32 := Scalar.muli c2_i32_170 arg15
  let c0_i32_171 : BitVec 32 := 0#32
  let v200 : BitVec 32 := Scalar.addi v199 c0_i32_171
  let v368 : Index := Scalar.indexCast v200
  let c368 : Index := 368#32
  ![v368.toNat, 368]
def k0_off80 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v378 : Index := Scalar.indexCast v371
  let c0_274 : Index := 0#32
  ![v378.toNat, 0]
def k0_off81 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v385 : Index := Scalar.indexCast v371
  let c16_279 : Index := 16#32
  ![v385.toNat, 16]
def k0_off82 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v392 : Index := Scalar.indexCast v371
  let c32_284 : Index := 32#32
  ![v392.toNat, 32]
def k0_off83 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v399 : Index := Scalar.indexCast v371
  let c48_289 : Index := 48#32
  ![v399.toNat, 48]
def k0_off84 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v406 : Index := Scalar.indexCast v371
  let c64_294 : Index := 64#32
  ![v406.toNat, 64]
def k0_off85 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v413 : Index := Scalar.indexCast v371
  let c80_299 : Index := 80#32
  ![v413.toNat, 80]
def k0_off86 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v420 : Index := Scalar.indexCast v371
  let c96_304 : Index := 96#32
  ![v420.toNat, 96]
def k0_off87 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v427 : Index := Scalar.indexCast v371
  let c112_309 : Index := 112#32
  ![v427.toNat, 112]
def k0_off88 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v434 : Index := Scalar.indexCast v371
  let c128_314 : Index := 128#32
  ![v434.toNat, 128]
def k0_off89 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v441 : Index := Scalar.indexCast v371
  let c144_319 : Index := 144#32
  ![v441.toNat, 144]
def k0_off90 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v448 : Index := Scalar.indexCast v371
  let c160_324 : Index := 160#32
  ![v448.toNat, 160]
def k0_off91 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v455 : Index := Scalar.indexCast v371
  let c176_329 : Index := 176#32
  ![v455.toNat, 176]
def k0_off92 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v462 : Index := Scalar.indexCast v371
  let c192_334 : Index := 192#32
  ![v462.toNat, 192]
def k0_off93 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v469 : Index := Scalar.indexCast v371
  let c208_339 : Index := 208#32
  ![v469.toNat, 208]
def k0_off94 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v476 : Index := Scalar.indexCast v371
  let c224_344 : Index := 224#32
  ![v476.toNat, 224]
def k0_off95 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v483 : Index := Scalar.indexCast v371
  let c240_349 : Index := 240#32
  ![v483.toNat, 240]
def k0_off96 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v490 : Index := Scalar.indexCast v371
  let c256_354 : Index := 256#32
  ![v490.toNat, 256]
def k0_off97 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v497 : Index := Scalar.indexCast v371
  let c272_359 : Index := 272#32
  ![v497.toNat, 272]
def k0_off98 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v504 : Index := Scalar.indexCast v371
  let c288_364 : Index := 288#32
  ![v504.toNat, 288]
def k0_off99 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v511 : Index := Scalar.indexCast v371
  let c304_369 : Index := 304#32
  ![v511.toNat, 304]
def k0_off100 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v518 : Index := Scalar.indexCast v371
  let c320_374 : Index := 320#32
  ![v518.toNat, 320]
def k0_off101 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v525 : Index := Scalar.indexCast v371
  let c336_379 : Index := 336#32
  ![v525.toNat, 336]
def k0_off102 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v532 : Index := Scalar.indexCast v371
  let c352_384 : Index := 352#32
  ![v532.toNat, 352]

def k0_chk4 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) : Prop :=
  (∀ a x, ((![v372, v7] : Fin 2 → IVec S16 32) a x).toNat < S32x384.size a) ∧
  (∀ a x, ((![v372, v9] : Fin 2 → IVec S16 32) a x).toNat < S32x384.size a) ∧
  (∀ a x, ((![v372, v11] : Fin 2 → IVec S16 32) a x).toNat < S32x384.size a) ∧
  (∀ a x, ((![v372, v13] : Fin 2 → IVec S16 32) a x).toNat < S32x384.size a) ∧
  (∀ a x, ((![v372, v15] : Fin 2 → IVec S16 32) a x).toNat < S32x384.size a) ∧
  (∀ a x, ((![v372, v17] : Fin 2 → IVec S16 32) a x).toNat < S32x384.size a) ∧
  (∀ a x, ((![v372, v19] : Fin 2 → IVec S16 32) a x).toNat < S32x384.size a) ∧
  (∀ a x, ((![v372, v21] : Fin 2 → IVec S16 32) a x).toNat < S32x384.size a) ∧
  (∀ a x, ((![v372, v23] : Fin 2 → IVec S16 32) a x).toNat < S32x384.size a) ∧
  (∀ a x, ((![v372, v25] : Fin 2 → IVec S16 32) a x).toNat < S32x384.size a) ∧
  (∀ a x, ((![v372, v27] : Fin 2 → IVec S16 32) a x).toNat < S32x384.size a) ∧
  (∀ a x, ((![v372, v29] : Fin 2 → IVec S16 32) a x).toNat < S32x384.size a) ∧
  (∀ a x, ((![v372, v33] : Fin 2 → IVec S16 32) a x).toNat < S32x384.size a) ∧
  (∀ a x, ((![v372, v37] : Fin 2 → IVec S16 32) a x).toNat < S32x384.size a) ∧
  (∀ a x, ((![v372, v41] : Fin 2 → IVec S16 32) a x).toNat < S32x384.size a) ∧
  (∀ a x, ((![v372, v45] : Fin 2 → IVec S16 32) a x).toNat < S32x384.size a) ∧
  (∀ a x, ((![v372, v49] : Fin 2 → IVec S16 32) a x).toNat < S32x384.size a) ∧
  (∀ a x, ((![v372, v53] : Fin 2 → IVec S16 32) a x).toNat < S32x384.size a) ∧
  (∀ a x, ((![v372, v57] : Fin 2 → IVec S16 32) a x).toNat < S32x384.size a) ∧
  (∀ a x, ((![v372, v61] : Fin 2 → IVec S16 32) a x).toNat < S32x384.size a) ∧
  (∀ a x, ((![v372, v65] : Fin 2 → IVec S16 32) a x).toNat < S32x384.size a) ∧
  (∀ a x, ((![v372, v69] : Fin 2 → IVec S16 32) a x).toNat < S32x384.size a) ∧
  (∀ a x, ((![v372, v73] : Fin 2 → IVec S16 32) a x).toNat < S32x384.size a) ∧
  (∀ a x, ((![v372, v77] : Fin 2 → IVec S16 32) a x).toNat < S32x384.size a)
theorem k0_idx73_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v7] : Fin 2 → IVec S16 32) a x).toNat < S32x384.size a := fun v7 v9 v11 v13 v15 v17 v19 v21 v23 v25 v27 v29 v33 v37 v41 v45 v49 v53 v57 v61 v65 v69 v73 v77 v372 k0_hw4 => k0_hw4.1
theorem k0_idx74_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v9] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.1
theorem k0_idx75_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v11] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.1
theorem k0_idx76_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v13] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.1
theorem k0_idx77_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v15] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.1
theorem k0_idx78_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v17] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.1
theorem k0_idx79_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v19] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.1
theorem k0_idx80_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v21] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.1
theorem k0_idx81_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v23] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.1
theorem k0_idx82_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v25] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.1
theorem k0_idx83_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v27] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.1
theorem k0_idx84_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v29] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.1
theorem k0_idx85_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v33] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.1
theorem k0_idx86_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v37] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.1
theorem k0_idx87_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v41] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.1
theorem k0_idx88_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v45] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.1
theorem k0_idx89_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v49] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.1
theorem k0_idx90_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v53] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.1
theorem k0_idx91_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v57] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.1
theorem k0_idx92_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v61] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.2.1
theorem k0_idx93_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v65] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.2.2.1
theorem k0_idx94_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v69] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.2.2.2.1
theorem k0_idx95_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v73] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.2.2.2.2.1
theorem k0_idx96_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v372 : IVec S16 32) (k0_hw4 : k0_chk4 v7 v9 v11 v13 v15 v17 v19 v21 v23 v25 v27 v29 v33 v37 v41 v45 v49 v53 v57 v61 v65 v69 v73 v77 v372), ∀ a x, ((![v372, v77] : Fin 2 → IVec S16 32) a x).toNat < S32x384.size a := fun v7 v9 v11 v13 v15 v17 v19 v21 v23 v25 v27 v29 v33 v37 v41 v45 v49 v53 v57 v61 v65 v69 v73 v77 v372 k0_hw4 => k0_hw4.2.2.2.2.2.2.2.2.2.2.2.2.2.2.2.2.2.2.2.2.2.2.2
def k0_off103 (k0_t3 : Fin k0_t3_loop.trips) : Fin 2 → Nat :=
  let c2_i32_268 : BitVec 32 := 2#32
  let c0_i32_158 : BitVec 32 := 0#32
  let c1_i32_160 : BitVec 32 := 1#32
  let arg15 : BitVec 32 := Scf.iv c0_i32_158 c1_i32_160 k0_t3
  let v370 : BitVec 32 := Scalar.muli c2_i32_268 arg15
  let c1_i32_269 : BitVec 32 := 1#32
  let v371 : BitVec 32 := Scalar.addi v370 c1_i32_269
  let v539 : Index := Scalar.indexCast v371
  let c368_389 : Index := 368#32
  ![v539.toNat, 368]
def k0_off104 (i : grid0.Coords) (c1536_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let v92 : BitVec 32 := Scalar.addi v2 c1536_i32
  let c0_i32_45 : BitVec 32 := 0#32
  ![v92.toNat, 0]
@[reducible] def k0_t4_loop : Scf.Loop 32 :=
  let c0_i32_67 : BitVec 32 := 0#32
  let c16_i32_68 : BitVec 32 := 16#32
  let v112 : BitVec 32 := Scalar.addi c0_i32_67 c16_i32_68
  let c1_i32_69 : BitVec 32 := 1#32
  ⟨c0_i32_67, v112, c1_i32_69⟩
def k0_off105 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v142 : Index := Scalar.indexCast v135
  let c0 : Index := 0#32
  ![v142.toNat, 0]
def k0_off106 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v149 : Index := Scalar.indexCast v135
  let c16 : Index := 16#32
  ![v149.toNat, 16]
def k0_off107 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v156 : Index := Scalar.indexCast v135
  let c32 : Index := 32#32
  ![v156.toNat, 32]
def k0_off108 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v163 : Index := Scalar.indexCast v135
  let c48 : Index := 48#32
  ![v163.toNat, 48]
def k0_off109 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v170 : Index := Scalar.indexCast v135
  let c64 : Index := 64#32
  ![v170.toNat, 64]
def k0_off110 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v177 : Index := Scalar.indexCast v135
  let c80 : Index := 80#32
  ![v177.toNat, 80]
def k0_off111 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v184 : Index := Scalar.indexCast v135
  let c96 : Index := 96#32
  ![v184.toNat, 96]
def k0_off112 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v191 : Index := Scalar.indexCast v135
  let c112 : Index := 112#32
  ![v191.toNat, 112]
def k0_off113 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v198 : Index := Scalar.indexCast v135
  let c128 : Index := 128#32
  ![v198.toNat, 128]
def k0_off114 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v205 : Index := Scalar.indexCast v135
  let c144 : Index := 144#32
  ![v205.toNat, 144]
def k0_off115 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v212 : Index := Scalar.indexCast v135
  let c160 : Index := 160#32
  ![v212.toNat, 160]
def k0_off116 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v219 : Index := Scalar.indexCast v135
  let c176 : Index := 176#32
  ![v219.toNat, 176]
def k0_off117 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v226 : Index := Scalar.indexCast v135
  let c192 : Index := 192#32
  ![v226.toNat, 192]
def k0_off118 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v233 : Index := Scalar.indexCast v135
  let c208 : Index := 208#32
  ![v233.toNat, 208]
def k0_off119 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v240 : Index := Scalar.indexCast v135
  let c224 : Index := 224#32
  ![v240.toNat, 224]
def k0_off120 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v247 : Index := Scalar.indexCast v135
  let c240 : Index := 240#32
  ![v247.toNat, 240]
def k0_off121 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v254 : Index := Scalar.indexCast v135
  let c256 : Index := 256#32
  ![v254.toNat, 256]
def k0_off122 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v261 : Index := Scalar.indexCast v135
  let c272 : Index := 272#32
  ![v261.toNat, 272]
def k0_off123 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v268 : Index := Scalar.indexCast v135
  let c288 : Index := 288#32
  ![v268.toNat, 288]
def k0_off124 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v275 : Index := Scalar.indexCast v135
  let c304 : Index := 304#32
  ![v275.toNat, 304]
def k0_off125 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v282 : Index := Scalar.indexCast v135
  let c320 : Index := 320#32
  ![v282.toNat, 320]
def k0_off126 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v289 : Index := Scalar.indexCast v135
  let c336 : Index := 336#32
  ![v289.toNat, 336]
def k0_off127 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v296 : Index := Scalar.indexCast v135
  let c352 : Index := 352#32
  ![v296.toNat, 352]

def k0_chk5 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) : Prop :=
  (∀ a x, ((![v136, v7] : Fin 2 → IVec S16 32) a x).toNat < S32x384.size a) ∧
  (∀ a x, ((![v136, v9] : Fin 2 → IVec S16 32) a x).toNat < S32x384.size a) ∧
  (∀ a x, ((![v136, v11] : Fin 2 → IVec S16 32) a x).toNat < S32x384.size a) ∧
  (∀ a x, ((![v136, v13] : Fin 2 → IVec S16 32) a x).toNat < S32x384.size a) ∧
  (∀ a x, ((![v136, v15] : Fin 2 → IVec S16 32) a x).toNat < S32x384.size a) ∧
  (∀ a x, ((![v136, v17] : Fin 2 → IVec S16 32) a x).toNat < S32x384.size a) ∧
  (∀ a x, ((![v136, v19] : Fin 2 → IVec S16 32) a x).toNat < S32x384.size a) ∧
  (∀ a x, ((![v136, v21] : Fin 2 → IVec S16 32) a x).toNat < S32x384.size a) ∧
  (∀ a x, ((![v136, v23] : Fin 2 → IVec S16 32) a x).toNat < S32x384.size a) ∧
  (∀ a x, ((![v136, v25] : Fin 2 → IVec S16 32) a x).toNat < S32x384.size a) ∧
  (∀ a x, ((![v136, v27] : Fin 2 → IVec S16 32) a x).toNat < S32x384.size a) ∧
  (∀ a x, ((![v136, v29] : Fin 2 → IVec S16 32) a x).toNat < S32x384.size a) ∧
  (∀ a x, ((![v136, v33] : Fin 2 → IVec S16 32) a x).toNat < S32x384.size a) ∧
  (∀ a x, ((![v136, v37] : Fin 2 → IVec S16 32) a x).toNat < S32x384.size a) ∧
  (∀ a x, ((![v136, v41] : Fin 2 → IVec S16 32) a x).toNat < S32x384.size a) ∧
  (∀ a x, ((![v136, v45] : Fin 2 → IVec S16 32) a x).toNat < S32x384.size a) ∧
  (∀ a x, ((![v136, v49] : Fin 2 → IVec S16 32) a x).toNat < S32x384.size a) ∧
  (∀ a x, ((![v136, v53] : Fin 2 → IVec S16 32) a x).toNat < S32x384.size a) ∧
  (∀ a x, ((![v136, v57] : Fin 2 → IVec S16 32) a x).toNat < S32x384.size a) ∧
  (∀ a x, ((![v136, v61] : Fin 2 → IVec S16 32) a x).toNat < S32x384.size a) ∧
  (∀ a x, ((![v136, v65] : Fin 2 → IVec S16 32) a x).toNat < S32x384.size a) ∧
  (∀ a x, ((![v136, v69] : Fin 2 → IVec S16 32) a x).toNat < S32x384.size a) ∧
  (∀ a x, ((![v136, v73] : Fin 2 → IVec S16 32) a x).toNat < S32x384.size a) ∧
  (∀ a x, ((![v136, v77] : Fin 2 → IVec S16 32) a x).toNat < S32x384.size a)
theorem k0_idx97_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v7] : Fin 2 → IVec S16 32) a x).toNat < S32x384.size a := fun v7 v9 v11 v13 v15 v17 v19 v21 v23 v25 v27 v29 v33 v37 v41 v45 v49 v53 v57 v61 v65 v69 v73 v77 v136 k0_hw5 => k0_hw5.1
theorem k0_idx98_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v9] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.1
theorem k0_idx99_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v11] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.1
theorem k0_idx100_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v13] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.1
theorem k0_idx101_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v15] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.1
theorem k0_idx102_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v17] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.1
theorem k0_idx103_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v19] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.1
theorem k0_idx104_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v21] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.1
theorem k0_idx105_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v23] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.1
theorem k0_idx106_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v25] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.1
theorem k0_idx107_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v27] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.1
theorem k0_idx108_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v29] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.1
theorem k0_idx109_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v33] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.1
theorem k0_idx110_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v37] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.1
theorem k0_idx111_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v41] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.1
theorem k0_idx112_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v45] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.1
theorem k0_idx113_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v49] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.1
theorem k0_idx114_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v53] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.1
theorem k0_idx115_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v57] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.1
theorem k0_idx116_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v61] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.2.1
theorem k0_idx117_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v65] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.2.2.1
theorem k0_idx118_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v69] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.2.2.2.1
theorem k0_idx119_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v73] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.2.2.2.2.1
theorem k0_idx120_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v136 : IVec S16 32) (k0_hw5 : k0_chk5 v7 v9 v11 v13 v15 v17 v19 v21 v23 v25 v27 v29 v33 v37 v41 v45 v49 v53 v57 v61 v65 v69 v73 v77 v136), ∀ a x, ((![v136, v77] : Fin 2 → IVec S16 32) a x).toNat < S32x384.size a := fun v7 v9 v11 v13 v15 v17 v19 v21 v23 v25 v27 v29 v33 v37 v41 v45 v49 v53 v57 v61 v65 v69 v73 v77 v136 k0_hw5 => k0_hw5.2.2.2.2.2.2.2.2.2.2.2.2.2.2.2.2.2.2.2.2.2.2.2
def k0_off128 (k0_t4 : Fin k0_t4_loop.trips) : Fin 2 → Nat :=
  let c2_i32_94 : BitVec 32 := 2#32
  let c0_i32_67 : BitVec 32 := 0#32
  let c1_i32_69 : BitVec 32 := 1#32
  let arg14 : BitVec 32 := Scf.iv c0_i32_67 c1_i32_69 k0_t4
  let v134 : BitVec 32 := Scalar.muli c2_i32_94 arg14
  let c0_i32_95 : BitVec 32 := 0#32
  let v135 : BitVec 32 := Scalar.addi v134 c0_i32_95
  let v303 : Index := Scalar.indexCast v135
  let c368 : Index := 368#32
  ![v303.toNat, 368]
def k0_off129 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v313 : Index := Scalar.indexCast v306
  let c0_198 : Index := 0#32
  ![v313.toNat, 0]
def k0_off130 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v320 : Index := Scalar.indexCast v306
  let c16_203 : Index := 16#32
  ![v320.toNat, 16]
def k0_off131 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v327 : Index := Scalar.indexCast v306
  let c32_208 : Index := 32#32
  ![v327.toNat, 32]
def k0_off132 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v334 : Index := Scalar.indexCast v306
  let c48_213 : Index := 48#32
  ![v334.toNat, 48]
def k0_off133 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v341 : Index := Scalar.indexCast v306
  let c64_218 : Index := 64#32
  ![v341.toNat, 64]
def k0_off134 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v348 : Index := Scalar.indexCast v306
  let c80_223 : Index := 80#32
  ![v348.toNat, 80]
def k0_off135 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v355 : Index := Scalar.indexCast v306
  let c96_228 : Index := 96#32
  ![v355.toNat, 96]
def k0_off136 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v362 : Index := Scalar.indexCast v306
  let c112_233 : Index := 112#32
  ![v362.toNat, 112]
def k0_off137 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v369 : Index := Scalar.indexCast v306
  let c128_238 : Index := 128#32
  ![v369.toNat, 128]
def k0_off138 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v376 : Index := Scalar.indexCast v306
  let c144_243 : Index := 144#32
  ![v376.toNat, 144]
def k0_off139 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v383 : Index := Scalar.indexCast v306
  let c160_248 : Index := 160#32
  ![v383.toNat, 160]
def k0_off140 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v390 : Index := Scalar.indexCast v306
  let c176_253 : Index := 176#32
  ![v390.toNat, 176]
def k0_off141 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v397 : Index := Scalar.indexCast v306
  let c192_258 : Index := 192#32
  ![v397.toNat, 192]
def k0_off142 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v404 : Index := Scalar.indexCast v306
  let c208_263 : Index := 208#32
  ![v404.toNat, 208]
def k0_off143 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v411 : Index := Scalar.indexCast v306
  let c224_268 : Index := 224#32
  ![v411.toNat, 224]
def k0_off144 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v418 : Index := Scalar.indexCast v306
  let c240_273 : Index := 240#32
  ![v418.toNat, 240]
def k0_off145 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v425 : Index := Scalar.indexCast v306
  let c256_278 : Index := 256#32
  ![v425.toNat, 256]
def k0_off146 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v432 : Index := Scalar.indexCast v306
  let c272_283 : Index := 272#32
  ![v432.toNat, 272]
def k0_off147 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v439 : Index := Scalar.indexCast v306
  let c288_288 : Index := 288#32
  ![v439.toNat, 288]
def k0_off148 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v446 : Index := Scalar.indexCast v306
  let c304_293 : Index := 304#32
  ![v446.toNat, 304]
def k0_off149 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v453 : Index := Scalar.indexCast v306
  let c320_298 : Index := 320#32
  ![v453.toNat, 320]
def k0_off150 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v460 : Index := Scalar.indexCast v306
  let c336_303 : Index := 336#32
  ![v460.toNat, 336]
def k0_off151 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v467 : Index := Scalar.indexCast v306
  let c352_308 : Index := 352#32
  ![v467.toNat, 352]

def k0_chk6 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) : Prop :=
  (∀ a x, ((![v307, v7] : Fin 2 → IVec S16 32) a x).toNat < S32x384.size a) ∧
  (∀ a x, ((![v307, v9] : Fin 2 → IVec S16 32) a x).toNat < S32x384.size a) ∧
  (∀ a x, ((![v307, v11] : Fin 2 → IVec S16 32) a x).toNat < S32x384.size a) ∧
  (∀ a x, ((![v307, v13] : Fin 2 → IVec S16 32) a x).toNat < S32x384.size a) ∧
  (∀ a x, ((![v307, v15] : Fin 2 → IVec S16 32) a x).toNat < S32x384.size a) ∧
  (∀ a x, ((![v307, v17] : Fin 2 → IVec S16 32) a x).toNat < S32x384.size a) ∧
  (∀ a x, ((![v307, v19] : Fin 2 → IVec S16 32) a x).toNat < S32x384.size a) ∧
  (∀ a x, ((![v307, v21] : Fin 2 → IVec S16 32) a x).toNat < S32x384.size a) ∧
  (∀ a x, ((![v307, v23] : Fin 2 → IVec S16 32) a x).toNat < S32x384.size a) ∧
  (∀ a x, ((![v307, v25] : Fin 2 → IVec S16 32) a x).toNat < S32x384.size a) ∧
  (∀ a x, ((![v307, v27] : Fin 2 → IVec S16 32) a x).toNat < S32x384.size a) ∧
  (∀ a x, ((![v307, v29] : Fin 2 → IVec S16 32) a x).toNat < S32x384.size a) ∧
  (∀ a x, ((![v307, v33] : Fin 2 → IVec S16 32) a x).toNat < S32x384.size a) ∧
  (∀ a x, ((![v307, v37] : Fin 2 → IVec S16 32) a x).toNat < S32x384.size a) ∧
  (∀ a x, ((![v307, v41] : Fin 2 → IVec S16 32) a x).toNat < S32x384.size a) ∧
  (∀ a x, ((![v307, v45] : Fin 2 → IVec S16 32) a x).toNat < S32x384.size a) ∧
  (∀ a x, ((![v307, v49] : Fin 2 → IVec S16 32) a x).toNat < S32x384.size a) ∧
  (∀ a x, ((![v307, v53] : Fin 2 → IVec S16 32) a x).toNat < S32x384.size a) ∧
  (∀ a x, ((![v307, v57] : Fin 2 → IVec S16 32) a x).toNat < S32x384.size a) ∧
  (∀ a x, ((![v307, v61] : Fin 2 → IVec S16 32) a x).toNat < S32x384.size a) ∧
  (∀ a x, ((![v307, v65] : Fin 2 → IVec S16 32) a x).toNat < S32x384.size a) ∧
  (∀ a x, ((![v307, v69] : Fin 2 → IVec S16 32) a x).toNat < S32x384.size a) ∧
  (∀ a x, ((![v307, v73] : Fin 2 → IVec S16 32) a x).toNat < S32x384.size a) ∧
  (∀ a x, ((![v307, v77] : Fin 2 → IVec S16 32) a x).toNat < S32x384.size a)
theorem k0_idx121_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v7] : Fin 2 → IVec S16 32) a x).toNat < S32x384.size a := fun v7 v9 v11 v13 v15 v17 v19 v21 v23 v25 v27 v29 v33 v37 v41 v45 v49 v53 v57 v61 v65 v69 v73 v77 v307 k0_hw6 => k0_hw6.1
theorem k0_idx122_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v9] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.1
theorem k0_idx123_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v11] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.1
theorem k0_idx124_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v13] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.1
theorem k0_idx125_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v15] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.1
theorem k0_idx126_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v17] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.1
theorem k0_idx127_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v19] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.1
theorem k0_idx128_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v21] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.1
theorem k0_idx129_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v23] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.1
theorem k0_idx130_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v25] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.1
theorem k0_idx131_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v27] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.1
theorem k0_idx132_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v29] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.1
theorem k0_idx133_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v33] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.1
theorem k0_idx134_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v37] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.1
theorem k0_idx135_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v41] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.1
theorem k0_idx136_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v45] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.1
theorem k0_idx137_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v49] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.1
theorem k0_idx138_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v53] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.1
theorem k0_idx139_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v57] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.1
theorem k0_idx140_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v61] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.2.1
theorem k0_idx141_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v65] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.2.2.1
theorem k0_idx142_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v69] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.2.2.2.1
theorem k0_idx143_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v73] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.2.2.2.2.1
theorem k0_idx144_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v33 : IVec S16 32) (v37 : IVec S16 32) (v41 : IVec S16 32) (v45 : IVec S16 32) (v49 : IVec S16 32) (v53 : IVec S16 32) (v57 : IVec S16 32) (v61 : IVec S16 32) (v65 : IVec S16 32) (v69 : IVec S16 32) (v73 : IVec S16 32) (v77 : IVec S16 32) (v307 : IVec S16 32) (k0_hw6 : k0_chk6 v7 v9 v11 v13 v15 v17 v19 v21 v23 v25 v27 v29 v33 v37 v41 v45 v49 v53 v57 v61 v65 v69 v73 v77 v307), ∀ a x, ((![v307, v77] : Fin 2 → IVec S16 32) a x).toNat < S32x384.size a := fun v7 v9 v11 v13 v15 v17 v19 v21 v23 v25 v27 v29 v33 v37 v41 v45 v49 v53 v57 v61 v65 v69 v73 v77 v307 k0_hw6 => k0_hw6.2.2.2.2.2.2.2.2.2.2.2.2.2.2.2.2.2.2.2.2.2.2.2
def k0_off152 (k0_t4 : Fin k0_t4_loop.trips) : Fin 2 → Nat :=
  let c2_i32_192 : BitVec 32 := 2#32
  let c0_i32_67 : BitVec 32 := 0#32
  let c1_i32_69 : BitVec 32 := 1#32
  let arg14 : BitVec 32 := Scf.iv c0_i32_67 c1_i32_69 k0_t4
  let v305 : BitVec 32 := Scalar.muli c2_i32_192 arg14
  let c1_i32_193 : BitVec 32 := 1#32
  let v306 : BitVec 32 := Scalar.addi v305 c1_i32_193
  let v474 : Index := Scalar.indexCast v306
  let c368_313 : Index := 368#32
  ![v474.toNat, 368]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x384x56x56 : Shape := ⟨4, ![16, 384, 56, 56]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩
abbrev S16x192x56x56 : Shape := ⟨4, ![16, 192, 56, 56]⟩

abbrev nBuf : Space → Nat
  | .hbm => 90
  | .vmem => 0
  | .smem => 0
  | _ => 0

abbrev bufTy : (tb : Table) → Fin (tcTables nBuf tb) → BufTy
  | .hbm, ⟨0, _⟩ => ⟨S16x384x56x56, .f32⟩
  | .hbm, ⟨1, _⟩ => ⟨S16x384x56x56, .f32⟩
  | .hbm, ⟨2, _⟩ => ⟨S192, .i32⟩
  | .hbm, ⟨3, _⟩ => ⟨S_, .i32⟩
  | .hbm, ⟨4, _⟩ => ⟨S192, .i32⟩
  | .hbm, ⟨5, _⟩ => ⟨S192, .i32⟩
  | .hbm, ⟨6, _⟩ => ⟨S_, .i32⟩
  | .hbm, ⟨7, _⟩ => ⟨S192, .i32⟩
  | .hbm, ⟨8, _⟩ => ⟨S192, .i32⟩
  | .hbm, ⟨9, _⟩ => ⟨S192, .i32⟩
  | .hbm, ⟨10, _⟩ => ⟨S192, .i32⟩
  | .hbm, ⟨11, _⟩ => ⟨S_, .i32⟩
  | .hbm, ⟨12, _⟩ => ⟨S192, .i32⟩
  | .hbm, ⟨13, _⟩ => ⟨S192, .i32⟩
  | .hbm, ⟨14, _⟩ => ⟨S_, .i32⟩
  | .hbm, ⟨15, _⟩ => ⟨S192, .i32⟩
  | .hbm, ⟨16, _⟩ => ⟨S192, .i32⟩
  | .hbm, ⟨17, _⟩ => ⟨S192, .i32⟩
  | .hbm, ⟨18, _⟩ => ⟨S_, .i32⟩
  | .hbm, ⟨19, _⟩ => ⟨S192, .i32⟩
  | .hbm, ⟨20, _⟩ => ⟨S192, .i32⟩
  | .hbm, ⟨21, _⟩ => ⟨S_, .i32⟩
  | .hbm, ⟨22, _⟩ => ⟨S192, .i32⟩
  | .hbm, ⟨23, _⟩ => ⟨S192, .i1⟩
  | .hbm, ⟨24, _⟩ => ⟨S_, .i32⟩
  | .hbm, ⟨25, _⟩ => ⟨S192, .i32⟩
  | .hbm, ⟨26, _⟩ => ⟨S192, .i32⟩
  | .hbm, ⟨27, _⟩ => ⟨S192, .i32⟩
  | .hbm, ⟨28, _⟩ => ⟨S192x1, .i32⟩
  | .hbm, ⟨29, _⟩ => ⟨S1, .i32⟩
  | .hbm, ⟨30, _⟩ => ⟨S_, .i32⟩
  | .hbm, ⟨31, _⟩ => ⟨S192x1, .i32⟩
  | .hbm, ⟨32, _⟩ => ⟨S192x1, .i1⟩
  | .hbm, ⟨33, _⟩ => ⟨S1x1, .i32⟩
  | .hbm, ⟨34, _⟩ => ⟨S192x1, .i32⟩
  | .hbm, ⟨35, _⟩ => ⟨S192x1, .i1⟩
  | .hbm, ⟨36, _⟩ => ⟨S192x1, .i1⟩
  | .hbm, ⟨37, _⟩ => ⟨S_, .i1⟩
  | .hbm, ⟨38, _⟩ => ⟨S192, .i1⟩
  | .hbm, ⟨39, _⟩ => ⟨S16x192x56x56, .f32⟩
  | .hbm, ⟨40, _⟩ => ⟨S16x192x56x56, .i1⟩
  | .hbm, ⟨41, _⟩ => ⟨S_, .f32⟩
  | .hbm, ⟨42, _⟩ => ⟨S16x192x56x56, .f32⟩
  | .hbm, ⟨43, _⟩ => ⟨S16x192x56x56, .f32⟩
  | .hbm, ⟨44, _⟩ => ⟨S_, .f32⟩
  | .hbm, ⟨45, _⟩ => ⟨S16x384x56x56, .f32⟩
  | .hbm, ⟨46, _⟩ => ⟨S_, .i32⟩
  | .hbm, ⟨47, _⟩ => ⟨S192, .i32⟩
  | .hbm, ⟨48, _⟩ => ⟨S192, .i1⟩
  | .hbm, ⟨49, _⟩ => ⟨S_, .i32⟩
  | .hbm, ⟨50, _⟩ => ⟨S192, .i32⟩
  | .hbm, ⟨51, _⟩ => ⟨S192, .i32⟩
  | .hbm, ⟨52, _⟩ => ⟨S192, .i32⟩
  | .hbm, ⟨53, _⟩ => ⟨S192x1, .i32⟩
  | .hbm, ⟨54, _⟩ => ⟨S16x384x56x56, .f32⟩
  | .hbm, ⟨55, _⟩ => ⟨S_, .i32⟩
  | .hbm, ⟨56, _⟩ => ⟨S192, .i32⟩
  | .hbm, ⟨57, _⟩ => ⟨S192, .i1⟩
  | .hbm, ⟨58, _⟩ => ⟨S_, .i32⟩
  | .hbm, ⟨59, _⟩ => ⟨S192, .i32⟩
  | .hbm, ⟨60, _⟩ => ⟨S192, .i32⟩
  | .hbm, ⟨61, _⟩ => ⟨S192, .i32⟩
  | .hbm, ⟨62, _⟩ => ⟨S192x1, .i32⟩
  | .hbm, ⟨63, _⟩ => ⟨S1, .i32⟩
  | .hbm, ⟨64, _⟩ => ⟨S_, .i32⟩
  | .hbm, ⟨65, _⟩ => ⟨S192x1, .i32⟩
  | .hbm, ⟨66, _⟩ => ⟨S192x1, .i1⟩
  | .hbm, ⟨67, _⟩ => ⟨S1x1, .i32⟩
  | .hbm, ⟨68, _⟩ => ⟨S192x1, .i32⟩
  | .hbm, ⟨69, _⟩ => ⟨S192x1, .i1⟩
  | .hbm, ⟨70, _⟩ => ⟨S192x1, .i1⟩
  | .hbm, ⟨71, _⟩ => ⟨S_, .i1⟩
  | .hbm, ⟨72, _⟩ => ⟨S192, .i1⟩
  | .hbm, ⟨73, _⟩ => ⟨S16x192x56x56, .f32⟩
  | .hbm, ⟨74, _⟩ => ⟨S16x192x56x56, .i1⟩
  | .hbm, ⟨75, _⟩ => ⟨S_, .f32⟩
  | .hbm, ⟨76, _⟩ => ⟨S16x192x56x56, .f32⟩
  | .hbm, ⟨77, _⟩ => ⟨S16x192x56x56, .f32⟩
  | .hbm, ⟨78, _⟩ => ⟨S_, .f32⟩
  | .hbm, ⟨79, _⟩ => ⟨S16x384x56x56, .f32⟩
  | .hbm, ⟨80, _⟩ => ⟨S_, .i32⟩
  | .hbm, ⟨81, _⟩ => ⟨S192, .i32⟩
  | .hbm, ⟨82, _⟩ => ⟨S192, .i1⟩
  | .hbm, ⟨83, _⟩ => ⟨S_, .i32⟩
  | .hbm, ⟨84, _⟩ => ⟨S192, .i32⟩
  | .hbm, ⟨85, _⟩ => ⟨S192, .i32⟩
  | .hbm, ⟨86, _⟩ => ⟨S192, .i32⟩
  | .hbm, ⟨87, _⟩ => ⟨S192x1, .i32⟩
  | .hbm, ⟨88, _⟩ => ⟨S16x384x56x56, .f32⟩
  | .hbm, ⟨89, _⟩ => ⟨S16x384x56x56, .f32⟩
  | _, _ => ⟨S16x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v23 : Ref sig .tc := ⟨.hbm, 77, rfl⟩
abbrev main_cst_6 : Ref sig .tc := ⟨.hbm, 78, rfl⟩
abbrev main_v24 : Ref sig .tc := ⟨.hbm, 79, rfl⟩
abbrev main_c_7 : Ref sig .tc := ⟨.hbm, 80, rfl⟩
abbrev main_v25 : Ref sig .tc := ⟨.hbm, 81, rfl⟩
abbrev main_v26 : Ref sig .tc := ⟨.hbm, 82, rfl⟩
abbrev main_c_8 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]
-- ==== Proof.KernelIdeal.Trip.lean ====
/-
  The copy of one chunk, as a program over a list of picks. The kernel moves a chunk of 32 rows from its two input
  slots to its output slot with three loops of the same shape, two rows a trip, each row 24 picks: sixteen lanes
  gathered from an input slot, stored as sixteen neighbouring elements of the output slot. Here the trip is written
  once (`trip`), over the slots, the columns and the offsets, and each of the three loops' trips is shown to be it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Memref
public import Idealize.ShloMosaic.Lib.Transfers
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F]

/-- The buffers a chunk's memref names: 32 rows of 384. -/
abbrev Chunk (sp : Space) : Type := Memref sig .scVector sp S32x384 .f32

/-- Slot 0 of a two-slot scratch. -/
abbrev slot0 (W : Memref sig .scVector .vmem S2x32x384 .f32) : Chunk .vmem :=
  (W.slice (Rect.unit (s := S2x32x384) ![0, 0, 0] S1x32x384.size inb_S2x32x384_S1x32x384_0_0_0) (fun _ => rfl)).squeeze S32x384 squeezes_S1x32x384_S32x384

/-- Slot 1 of a two-slot scratch. -/
abbrev slot1 (W : Memref sig .scVector .vmem S2x32x384 .f32) : Chunk .vmem :=
  (W.slice (Rect.unit (s := S2x32x384) ![1, 0, 0] S1x32x384.size inb_S2x32x384_S1x32x384_1_0_0) (fun _ => rfl)).squeeze S32x384 squeezes_S1x32x384_S32x384

/-- One pick: gather sixteen elements of `src` at `idx`, store them at `off`, sixteen neighbouring elements of one row. -/
structure Pick where
  src : Chunk .vmem
  idx : Fin 2 → IVec S16 32
  idx_lt : ∀ a x, (idx a x).toNat < S32x384.size a
  off : Fin 2 → Nat
  off_le : ∀ a, off a + S1x16.size a ≤ S32x384.size a

/-- Where a pick stores. -/
abbrev Pick.rect (p : Pick) : Rect S32x384 := Rect.unit (s := S32x384) p.off S1x16.size p.off_le

/-- The picks of a list in turn, into `dst`. -/
def runPicks (c : Fin τ.nSC) (s : Fin τ.nSub) (dst : Chunk .vmem) : List Pick → Prog (TpuEff nD τ sig (Elt F) Λ₀ (.scVector c s)) Unit
  | [] => pure ⟨⟩
  | p :: ps => do
    let v : Vec F S16 .f32 ← SparseCore.vectorLoadIdx p.src p.idx p.idx_lt (View.loads_vmem h_S32x384)
    let _ : Vec F S1x16 .f32 ← Prog.lift (.load dst p.rect.toLoadRect (View.loadsAt_vmem h_S1x16))
    Prog.lift (.store dst p.rect (shapeCast S1x16 v shapeCasts_S16_S1x16) Finset.univ (View.stores_vmem_bits_univ h_S1x16 rfl) (.inl rfl))
    runPicks c s dst ps

/-- Column vector `j` under the row word, every lane in range of a slot. -/
abbrev InRange (cols : Fin 24 → IVec S16 32) (row : IVec S16 32) (j : Fin 24) : Prop :=
  ∀ a x, ((![row, cols j] : Fin 2 → IVec S16 32) a x).toNat < S32x384.size a

/-- A row's indices are in range: of the row word and each of the 24 columns. The printed checks are this proposition. -/
def RowOk (cols : Fin 24 → IVec S16 32) (row : IVec S16 32) : Prop :=
  InRange cols row 0 ∧ InRange cols row 1 ∧ InRange cols row 2 ∧ InRange cols row 3 ∧ InRange cols row 4 ∧ InRange cols row 5 ∧ InRange cols row 6 ∧ InRange cols row 7 ∧ InRange cols row 8 ∧ InRange cols row 9 ∧ InRange cols row 10 ∧ InRange cols row 11 ∧ InRange cols row 12 ∧ InRange cols row 13 ∧ InRange cols row 14 ∧ InRange cols row 15 ∧ InRange cols row 16 ∧ InRange cols row 17 ∧ InRange cols row 18 ∧ InRange cols row 19 ∧ InRange cols row 20 ∧ InRange cols row 21 ∧ InRange cols row 22 ∧ InRange cols row 23

theorem rowOk_iff (cols : Fin 24 → IVec S16 32) (row : IVec S16 32) : RowOk cols row ↔ ∀ j, InRange cols row j := by
  have (P : Fin 24 → Prop) : (∀ j, P j) ↔ P 0 ∧ P 1 ∧ P 2 ∧ P 3 ∧ P 4 ∧ P 5 ∧ P 6 ∧ P 7 ∧ P 8 ∧ P 9 ∧ P 10 ∧ P 11 ∧ P 12 ∧ P 13 ∧ P 14 ∧ P 15 ∧ P 16 ∧ P 17 ∧ P 18 ∧ P 19 ∧ P 20 ∧ P 21 ∧ P 22 ∧ P 23 := by
    simp only [Fin.forall_fin_succ, Fin.forall_fin_zero_pi]; simp
  exact (this (InRange cols row)).symm

theorem RowOk.all {cols : Fin 24 → IVec S16 32} {row : IVec S16 32} (h : RowOk cols row) (j : Fin 24) : InRange cols row j :=
  (rowOk_iff cols row).mp h j

/-- Pick `j` of a row, out of the input slot `src`. -/
def rowPick (cols : Fin 24 → IVec S16 32) (row : IVec S16 32) (h : RowOk cols row) (offs : Fin 24 → Fin 2 → Nat)
    (hoffs : ∀ j a, offs j a + S1x16.size a ≤ S32x384.size a) (src : Chunk .vmem) (j : Fin 24) : Pick :=
  ⟨src, ![row, cols j], RowOk.all h j, offs j, hoffs j⟩

/-- The picks of one row: twelve from the first input slot, twelve from the second. -/
def rowPicks (A B : Chunk .vmem) (cols : Fin 24 → IVec S16 32) (row : IVec S16 32) (h : RowOk cols row)
    (offs : Fin 24 → Fin 2 → Nat) (hoffs : ∀ j a, offs j a + S1x16.size a ≤ S32x384.size a) : List Pick :=
  let pA := rowPick cols row h offs hoffs A
  let pB := rowPick cols row h offs hoffs B
  [pA 0, pA 1, pA 2, pA 3, pA 4, pA 5, pA 6, pA 7, pA 8, pA 9, pA 10, pA 11,
    pB 12, pB 13, pB 14, pB 15, pB 16, pB 17, pB 18, pB 19, pB 20, pB 21, pB 22, pB 23]

/-- One trip of a copying loop: two rows, each checked and picked. -/
def trip (c : Fin τ.nSC) (s : Fin τ.nSub) (A B dst : Chunk .vmem) (cols : Fin 24 → IVec S16 32) (row₁ row₂ : IVec S16 32)
    (d₁ : Decidable (RowOk cols row₁)) (d₂ : Decidable (RowOk cols row₂)) (offs₁ offs₂ : Fin 24 → Fin 2 → Nat)
    (h₁ : ∀ j a, offs₁ j a + S1x16.size a ≤ S32x384.size a) (h₂ : ∀ j a, offs₂ j a + S1x16.size a ≤ S32x384.size a) :
    Prog (TpuEff nD τ sig (Elt F) Λ₀ (.scVector c s)) Unit := do
  let a₁ ← Prog.lift (TpuEff.assume (RowOk cols row₁) d₁)
  runPicks c s dst (rowPicks A B cols row₁ a₁.down offs₁ h₁)
  let a₂ ← Prog.lift (TpuEff.assume (RowOk cols row₂) d₂)
  runPicks c s dst (rowPicks A B cols row₂ a₂.down offs₂ h₂)

/-! ## The three loops' trips -/

section Trips

variable (i : grid0.Coords)
  (arg2 : Memref sig .scVector .hbm S50176x384 .f32) (harg2 : arg2.IsWhole) (arg3 : Memref sig .scVector .hbm S50176x384 .f32) (harg3 : arg3.IsWhole) (arg4 : Memref sig .scVector .hbm S50176x384 .f32) (harg4 : arg4.IsWhole) (arg5 : Memref sig .scVector .vmem S2x32x384 .f32) (harg5 : arg5.IsWhole) (arg6 : Memref sig .scVector .vmem S2x32x384 .f32) (harg6 : arg6.IsWhole) (arg7 : Memref sig .scVector .vmem S2x32x384 .f32) (harg7 : arg7.IsWhole)
  (arg8 arg9 arg10 arg11 arg12 arg13 : DmaSems sig S_) (v2 : BitVec 32)
  (v7 v9 v11 v13 v15 v17 v19 v21 v23 v25 v27 v29 v33 v37 v41 v45 v49 v53 v57 v61 v65 v69 v73 v77 : IVec S16 32)

/-- The 24 column vectors in the order the picks take them. -/
abbrev colsOf : Fin 24 → IVec S16 32 :=
  ![v7, v9, v11, v13, v15, v17, v19, v21, v23, v25, v27, v29, v33, v37, v41, v45, v49, v53, v57, v61, v65, v69,
      v73, v77]

/-- Where the picks of loop 2's first row of trip `t` store, and its second. -/
abbrev offs2a (t : Fin k0_t2_loop.trips) : Fin 24 → Fin 2 → Nat :=
  ![k0_off5 t, k0_off6 t, k0_off7 t, k0_off8 t, k0_off9 t, k0_off10 t, k0_off11 t, k0_off12 t, k0_off13 t,
      k0_off14 t, k0_off15 t, k0_off16 t, k0_off17 t, k0_off18 t, k0_off19 t, k0_off20 t, k0_off21 t, k0_off22 t,
      k0_off23 t, k0_off24 t, k0_off25 t, k0_off26 t, k0_off27 t, k0_off28 t]
abbrev offs2b (t : Fin k0_t2_loop.trips) : Fin 24 → Fin 2 → Nat :=
  ![k0_off29 t, k0_off30 t, k0_off31 t, k0_off32 t, k0_off33 t, k0_off34 t, k0_off35 t, k0_off36 t, k0_off37 t,
      k0_off38 t, k0_off39 t, k0_off40 t, k0_off41 t, k0_off42 t, k0_off43 t, k0_off44 t, k0_off45 t, k0_off46 t,
      k0_off47 t, k0_off48 t, k0_off49 t, k0_off50 t, k0_off51 t, k0_off52 t]

theorem offs2a_eq : ∀ (t : Fin k0_t2_loop.trips) (j : Fin 24) (a : Fin 2), offs2a t j a = (![2 * t.val, 16 * j.val] : Fin 2 → Nat) a := by decide +kernel
theorem offs2b_eq : ∀ (t : Fin k0_t2_loop.trips) (j : Fin 24) (a : Fin 2), offs2b t j a = (![2 * t.val + 1, 16 * j.val] : Fin 2 → Nat) a := by decide +kernel
theorem offs2a_inb : ∀ (t : Fin k0_t2_loop.trips) (j : Fin 24) (a : Fin 2), offs2a t j a + S1x16.size a ≤ S32x384.size a := by decide +kernel
theorem offs2b_inb : ∀ (t : Fin k0_t2_loop.trips) (j : Fin 24) (a : Fin 2), offs2b t j a + S1x16.size a ≤ S32x384.size a := by decide +kernel

set_option maxRecDepth 65536 in
set_option maxHeartbeats 800000 in
theorem t2_body_eq (k0_t1 : Fin k0_t1_loop.trips) (v134 v135 : BitVec 32) (t : Fin k0_t2_loop.trips) :
    k0_t2_body (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 k0_t1 v134 v135 0#32 1#32 t ⟨⟩
      = trip _ _ (slot0 arg5) (slot0 arg6) (slot0 arg7)
          (colsOf v7 v9 v11 v13 v15 v17 v19 v21 v23 v25 v27 v29 v33 v37 v41 v45 v49 v53 v57 v61 v65 v69 v73 v77)
          (broadcast S16 (Scalar.addi (Scalar.muli 2#32 (Scf.iv 0#32 1#32 t)) 0#32)) (broadcast S16 (Scalar.addi (Scalar.muli 2#32 (Scf.iv 0#32 1#32 t)) 1#32))
          (k0_chk1.dec v7 v9 v11 v13 v15 v17 v19 v21 v23 v25 v27 v29 v33 v37 v41 v45 v49 v53 v57 v61 v65 v69 v73 v77 _) (k0_chk2.dec v7 v9 v11 v13 v15 v17 v19 v21 v23 v25 v27 v29 v33 v37 v41 v45 v49 v53 v57 v61 v65 v69 v73 v77 _)
          (offs2a t) (offs2b t) (offs2a_inb t) (offs2b_inb t) := by
  unfold k0_t2_body trip
  simp only [k0_part1, k0_part2, k0_part3, k0_part4, k0_part5, k0_part6, k0_part7, k0_part8, k0_part9, k0_part10, k0_part11, rowPicks, runPicks, Prog.lift, SparseCore.vectorLoadIdx, Prog.bind_op, Prog.bind_ret, Prog.pure_eq_ret]
  rfl

/-- Where the picks of loop 3's first row of trip `t` store, and its second. -/
abbrev offs3a (t : Fin k0_t3_loop.trips) : Fin 24 → Fin 2 → Nat :=
  ![k0_off56 t, k0_off57 t, k0_off58 t, k0_off59 t, k0_off60 t, k0_off61 t, k0_off62 t, k0_off63 t, k0_off64 t,
      k0_off65 t, k0_off66 t, k0_off67 t, k0_off68 t, k0_off69 t, k0_off70 t, k0_off71 t, k0_off72 t, k0_off73 t,
      k0_off74 t, k0_off75 t, k0_off76 t, k0_off77 t, k0_off78 t, k0_off79 t]
abbrev offs3b (t : Fin k0_t3_loop.trips) : Fin 24 → Fin 2 → Nat :=
  ![k0_off80 t, k0_off81 t, k0_off82 t, k0_off83 t, k0_off84 t, k0_off85 t, k0_off86 t, k0_off87 t, k0_off88 t,
      k0_off89 t, k0_off90 t, k0_off91 t, k0_off92 t, k0_off93 t, k0_off94 t, k0_off95 t, k0_off96 t, k0_off97 t,
      k0_off98 t, k0_off99 t, k0_off100 t, k0_off101 t, k0_off102 t, k0_off103 t]

theorem offs3a_eq : ∀ (t : Fin k0_t3_loop.trips) (j : Fin 24) (a : Fin 2), offs3a t j a = (![2 * t.val, 16 * j.val] : Fin 2 → Nat) a := by decide +kernel
theorem offs3b_eq : ∀ (t : Fin k0_t3_loop.trips) (j : Fin 24) (a : Fin 2), offs3b t j a = (![2 * t.val + 1, 16 * j.val] : Fin 2 → Nat) a := by decide +kernel
theorem offs3a_inb : ∀ (t : Fin k0_t3_loop.trips) (j : Fin 24) (a : Fin 2), offs3a t j a + S1x16.size a ≤ S32x384.size a := by decide +kernel
theorem offs3b_inb : ∀ (t : Fin k0_t3_loop.trips) (j : Fin 24) (a : Fin 2), offs3b t j a + S1x16.size a ≤ S32x384.size a := by decide +kernel

set_option maxRecDepth 65536 in
set_option maxHeartbeats 800000 in
theorem t3_body_eq (c : BitVec 32) (t : Fin k0_t3_loop.trips) :
    k0_t3_body (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 c t ⟨⟩
      = trip _ _ (slot1 arg5) (slot1 arg6) (slot1 arg7)
          (colsOf v7 v9 v11 v13 v15 v17 v19 v21 v23 v25 v27 v29 v33 v37 v41 v45 v49 v53 v57 v61 v65 v69 v73 v77)
          (broadcast S16 (Scalar.addi (Scalar.muli 2#32 (Scf.iv 0#32 1#32 t)) 0#32)) (broadcast S16 (Scalar.addi (Scalar.muli 2#32 (Scf.iv 0#32 1#32 t)) 1#32))
          (k0_chk3.dec v7 v9 v11 v13 v15 v17 v19 v21 v23 v25 v27 v29 v33 v37 v41 v45 v49 v53 v57 v61 v65 v69 v73 v77 _) (k0_chk4.dec v7 v9 v11 v13 v15 v17 v19 v21 v23 v25 v27 v29 v33 v37 v41 v45 v49 v53 v57 v61 v65 v69 v73 v77 _)
          (offs3a t) (offs3b t) (offs3a_inb t) (offs3b_inb t) := by
  unfold k0_t3_body trip
  simp only [k0_part12, k0_part13, k0_part14, k0_part15, k0_part16, k0_part17, k0_part18, k0_part19, k0_part20, k0_part21, k0_part22, rowPicks, runPicks, Prog.lift, SparseCore.vectorLoadIdx, Prog.bind_op, Prog.bind_ret, Prog.pure_eq_ret]
  rfl

/-- Where the picks of loop 4's first row of trip `t` store, and its second. -/
abbrev offs4a (t : Fin k0_t4_loop.trips) : Fin 24 → Fin 2 → Nat :=
  ![k0_off105 t, k0_off106 t, k0_off107 t, k0_off108 t, k0_off109 t, k0_off110 t, k0_off111 t, k0_off112 t,
      k0_off113 t, k0_off114 t, k0_off115 t, k0_off116 t, k0_off117 t, k0_off118 t, k0_off119 t, k0_off120 t,
      k0_off121 t, k0_off122 t, k0_off123 t, k0_off124 t, k0_off125 t, k0_off126 t, k0_off127 t, k0_off128 t]
abbrev offs4b (t : Fin k0_t4_loop.trips) : Fin 24 → Fin 2 → Nat :=
  ![k0_off129 t, k0_off130 t, k0_off131 t, k0_off132 t, k0_off133 t, k0_off134 t, k0_off135 t, k0_off136 t,
      k0_off137 t, k0_off138 t, k0_off139 t, k0_off140 t, k0_off141 t, k0_off142 t, k0_off143 t, k0_off144 t,
      k0_off145 t, k0_off146 t, k0_off147 t, k0_off148 t, k0_off149 t, k0_off150 t, k0_off151 t, k0_off152 t]

theorem offs4a_eq : ∀ (t : Fin k0_t4_loop.trips) (j : Fin 24) (a : Fin 2), offs4a t j a = (![2 * t.val, 16 * j.val] : Fin 2 → Nat) a := by decide +kernel
theorem offs4b_eq : ∀ (t : Fin k0_t4_loop.trips) (j : Fin 24) (a : Fin 2), offs4b t j a = (![2 * t.val + 1, 16 * j.val] : Fin 2 → Nat) a := by decide +kernel
theorem offs4a_inb : ∀ (t : Fin k0_t4_loop.trips) (j : Fin 24) (a : Fin 2), offs4a t j a + S1x16.size a ≤ S32x384.size a := by decide +kernel
theorem offs4b_inb : ∀ (t : Fin k0_t4_loop.trips) (j : Fin 24) (a : Fin 2), offs4b t j a + S1x16.size a ≤ S32x384.size a := by decide +kernel

set_option maxRecDepth 65536 in
set_option maxHeartbeats 800000 in
theorem t4_body_eq  (t : Fin k0_t4_loop.trips) :
    k0_t4_body (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77  t ⟨⟩
      = trip _ _ (slot0 arg5) (slot0 arg6) (slot0 arg7)
          (colsOf v7 v9 v11 v13 v15 v17 v19 v21 v23 v25 v27 v29 v33 v37 v41 v45 v49 v53 v57 v61 v65 v69 v73 v77)
          (broadcast S16 (Scalar.addi (Scalar.muli 2#32 (Scf.iv 0#32 1#32 t)) 0#32)) (broadcast S16 (Scalar.addi (Scalar.muli 2#32 (Scf.iv 0#32 1#32 t)) 1#32))
          (k0_chk5.dec v7 v9 v11 v13 v15 v17 v19 v21 v23 v25 v27 v29 v33 v37 v41 v45 v49 v53 v57 v61 v65 v69 v73 v77 _) (k0_chk6.dec v7 v9 v11 v13 v15 v17 v19 v21 v23 v25 v27 v29 v33 v37 v41 v45 v49 v53 v57 v61 v65 v69 v73 v77 _)
          (offs4a t) (offs4b t) (offs4a_inb t) (offs4b_inb t) := by
  unfold k0_t4_body trip
  simp only [k0_part25, k0_part26, k0_part27, k0_part28, k0_part29, k0_part30, k0_part31, k0_part32, k0_part33, k0_part34, k0_part35, rowPicks, runPicks, Prog.lift, SparseCore.vectorLoadIdx, Prog.bind_op, Prog.bind_ret, Prog.pure_eq_ret]
  rfl

end Trips

end Cert.Proof.KernelIdeal
-- ==== Proof.KernelIdeal.Setup.lean ====
/-
  The kernel as the launch theorem of the SparseCore library sees it: its call labels, the call's data, the body table,
  and the resource algebra (the handshakes' rounds beside the transfers' counters).
-/
module

public import proofs.«01_k».proof.Proof.KernelIdeal.Trip
public import Idealize.ShloMosaic.Lib.Pipeline.Kit

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, -/
abbrev UH : Type := URounds (GSem nD τ sig) ℕ
/-- beside the transfers' counters. -/
abbrev UU : Type := UH × Counters

/-- The algebra of resources the proofs are stated in. -/
abbrev MM (F : FTy → Type) : Type := MT nD τ sig (HIx 1) (Elt F) ℕ UU ℕ

/-- The handshakes' rounds library, the left factor; the counters are found by instance in the right. -/
abbrev EH : Emb UH (MT nD τ sig (HIx 1) (Elt F) ℕ UU ℕ) := embL

end Cert.Proof.KernelIdeal
-- ==== Proof.KernelIdeal.Picks.lean ====
/-
  What a copying loop leaves: the output slot holds, row by row, the even channels of the first input slot and then the
  odd channels of the second (`mix`). One pick writes sixteen neighbouring elements of it; 24 picks a row; two rows a
  trip; sixteen trips the slot.
-/
module

public import proofs.«01_k».proof.Proof.KernelIdeal.Setup
public import Idealize.ShloMosaic.Lib.ValueIdxCore

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Even channels of `A` into the first half of a row, odd channels of `B` into the second. -/
def mix {n : ℕ} {α : Type} (A B : (⟨2, ![n, 384]⟩ : Shape).Idx → α) : (⟨2, ![n, 384]⟩ : Shape).Idx → α := fun x =>
  if h : (x 1).val < 192 then A (ix2 (x 0) ⟨2 * (x 1).val, by omega⟩)
  else B (ix2 (x 0) ⟨2 * ((x 1).val - 192) + 1, by have : (x 1).val < 384 := (x 1).isLt; omega⟩)

/-- The column lane `l` of pick `j` gathers. -/
def colVal (j l : ℕ) : ℕ := if j < 12 then 32 * j + 2 * l else 32 * (j - 12) + 1 + 2 * l

/-- Rows before `r` are copied, and of row `r` the first `k` groups of sixteen. -/
def Done (XA XB : S32x384.Idx → Elt F .f32) (r k : ℕ) (Y : S32x384.Idx → Elt F .f32) : Prop :=
  ∀ x : S32x384.Idx, (x 0).val < r ∨ ((x 0).val = r ∧ (x 1).val < 16 * k) → Y x = mix XA XB x

theorem Done.zero (XA XB Y : S32x384.Idx → Elt F .f32) : Done XA XB 0 0 Y := fun x h => by omega

theorem Done.row {XA XB Y : S32x384.Idx → Elt F .f32} {r : ℕ} (h : Done XA XB r 24 Y) : Done XA XB (r + 1) 0 Y := fun x hx =>
  h x (by have : (x 1).val < 384 := (x 1).isLt; omega)

theorem Done.all {XA XB Y : S32x384.Idx → Elt F .f32} (h : Done XA XB 32 0 Y) : Y = mix XA XB :=
  funext fun x => h x (.inl (x 0).isLt)

/-- Pick `k` of row `r`: where it stores, what it gathers, out of which slot. -/
structure Good (A B : Chunk .vmem) (r k : ℕ) (p : Pick) : Prop where
  src : p.src = if k < 12 then A else B
  off0 : p.off 0 = r
  off1 : p.off 1 = 16 * k
  idx0 : ∀ x, (p.idx 0 x).toNat = r
  idx1 : ∀ x, (p.idx 1 x).toNat = colVal k (x 0).val

/-- A list of picks is row `r`'s from the `k`th on. -/
def PicksAt (A B : Chunk .vmem) (r : ℕ) : ℕ → List Pick → Prop
  | _, [] => True
  | k, p :: ps => Good A B r k p ∧ PicksAt A B r (k + 1) ps

variable [FloatOps F] (d : Dev nD) (c : Fin τ.nSC) (s : Fin τ.nSub)

/-- A copying loop's resources: both input slots, and the output slot copied so far. -/
def Copying (A B O : Chunk .vmem) (XA XB : S32x384.Idx → Elt F .f32) (r k : ℕ) : sProp 𝕄 :=
  iprop(owns (V d c s) A fullShare XA ∗ owns (V d c s) B fullShare XB
    ∗ ∃ Y, ⌜Done XA XB r k Y⌝ ∗ owns (V d c s) O fullShare Y)

/-- One pick's programs: the gather, the read of the place it stores to, the store. -/
theorem wp_pick {α : Type} {Q : α → sProp 𝕄} (dst : Chunk .vmem) (p : Pick) (X Y : S32x384.Idx → Elt F .f32)
    {hl₁ hl₂ hs hm} {k : PUnit → Prog (TpuEff nD τ sig (Elt F) Λ₀ (.scVector c s)) α} :
    iprop(owns (V d c s) p.src fullShare X ∗ owns (V d c s) dst fullShare Y)
      ⊢ iprop((∀ Y', ⌜(∀ x : S1x16.Idx, Y' (p.rect.emb x) = X (idxAt p.idx p.idx_lt (Shape.reshapeEquiv shapeCasts_S16_S1x16 x)))
              ∧ ∀ y, y ∉ p.rect.set → Y' y = Y y⌝ -∗ owns (V d c s) p.src fullShare X -∗ owns (V d c s) dst fullShare Y'
            -∗ wp frame (wpE (defs₀ (F := F)) 𝒱₀ (V d c s) none) Set.univ (k ⟨⟩) Q)
        -∗ wp frame (wpE (defs₀ (F := F)) 𝒱₀ (V d c s) none) Set.univ
            (SparseCore.vectorLoadIdx p.src p.idx p.idx_lt hl₁ >>= fun v : Vec F S16 .f32 =>
              .op (.load dst p.rect.toLoadRect hl₂) fun _ =>
                .op (.store dst p.rect (shapeCast S1x16 v shapeCasts_S16_S1x16) Finset.univ hs hm) k) Q) := by
  unfold owns
  iintro ⟨⟨%f, %hf, Hs⟩, %g, %hg, Hd⟩ Hk
  iapply (SparseCore.wp_vectorLoadIdx 𝒱₀ (V d c s) none Set.univ
    (show (p.src.access (.whole S32x384)).set ⊆ p.src.view.set from View.set_slice_subset _ _)) $$ Hs
  iintro Hs
  iapply (wp_load_rect 𝒱₀ (V d c s) none Set.univ (show (dst.access p.rect).set ⊆ dst.view.set from View.set_slice_subset _ _)) $$ Hd
  iintro Hd
  iapply (wp_store 𝒱₀ (V d c s) none Set.univ
    (show (dst.access p.rect).setOn Finset.univ ⊆ dst.view.set from (View.setOn_univ _).trans_subset (View.set_slice_subset _ _))) $$ Hd
  iintro Hd
  iapply Hk $$ %(dst.view.read (Elt F) ((dst.access p.rect).write (Elt F) g (shapeCast S1x16 (loadIdx ((p.src.access (.whole S32x384)).read (Elt F) f) p.idx p.idx_lt) shapeCasts_S16_S1x16) Finset.univ)) [] [Hs] [Hd]
  · ipureintro
    subst hf; subst hg
    refine ⟨fun x => ?_, fun y hy => ?_⟩
    · refine (View.read_slice_write_emb (v := dst.view) p.rect g _ (Finset.mem_univ x)).trans ?_
      show (p.src.access (.whole S32x384)).read (Elt F) f _ = _
      rw [View.read_apply, View.read_apply]
      exact congrArg _ (congrArg f (congrArg p.src.view.emb (Rect.emb_whole_apply _ _)))
    · exact View.read_slice_write_of_not_mem (v := dst.view) p.rect g _ _ (by rwa [Rect.map_emb_univ])
  · iexists f; isplitr
    · ipureintro; exact hf
    · iexact Hs
  · iexists _; isplitr
    · ipureintro; rfl
    · iexact Hd

/-- Sixteen lanes as one row of sixteen: the lane is the column. -/
theorem lane_val : ∀ x : S1x16.Idx, (Shape.reshapeEquiv shapeCasts_S16_S1x16 x 0).val = (x 1).val := by decide +kernel

/-- A good pick takes the copy one group of sixteen further. -/
theorem Good.done {A B : Chunk .vmem} {r k : ℕ} {p : Pick} (hp : Good A B r k p) (hk24 : k < 24) {XA XB X Y Y' : S32x384.Idx → Elt F .f32}
    (hX : X = if k < 12 then XA else XB) (h : Done XA XB r k Y)
    (hin : ∀ x : S1x16.Idx, Y' (p.rect.emb x) = X (idxAt p.idx p.idx_lt (Shape.reshapeEquiv shapeCasts_S16_S1x16 x)))
    (hout : ∀ y, y ∉ p.rect.set → Y' y = Y y) : Done XA XB r (k + 1) Y' := by
  intro x hx
  by_cases hm : x ∈ p.rect.set
  · obtain ⟨y, -, rfl⟩ := Finset.mem_map.mp (p.rect.map_emb_univ ▸ hm)
    have e0 : (p.rect.emb y 0).val = r := by
      have : (y 0).val < 1 := (y 0).isLt
      show p.off 0 + 1 * (y 0).val = r
      rw [hp.off0]; omega
    have e1 : (p.rect.emb y 1).val = 16 * k + (y 1).val := by
      show p.off 1 + 1 * (y 1).val = _
      rw [hp.off1]; omega
    have l16 : (y 1).val < 16 := (y 1).isLt
    have i0 := hp.idx0 (Shape.reshapeEquiv shapeCasts_S16_S1x16 y)
    have i1 := hp.idx1 (Shape.reshapeEquiv shapeCasts_S16_S1x16 y)
    rw [lane_val, colVal] at i1
    rw [hin, hX, mix]
    by_cases hk : k < 12
    · rw [if_pos hk, dif_pos (by omega)]
      rw [if_pos hk] at i1
      refine congrArg XA (funext fun a => Fin.ext ?_)
      match a with
      | ⟨0, _⟩ => exact i0.trans e0.symm
      | ⟨1, _⟩ => exact i1.trans (by show _ = 2 * (p.rect.emb y 1).val; omega)
    · rw [if_neg hk, dif_neg (by omega)]
      rw [if_neg hk] at i1
      refine congrArg XB (funext fun a => Fin.ext ?_)
      match a with
      | ⟨0, _⟩ => exact i0.trans e0.symm
      | ⟨1, _⟩ => exact i1.trans (by show _ = 2 * ((p.rect.emb y 1).val - 192) + 1; omega)
  · rw [hout x hm]
    refine h x ?_
    rw [Rect.mem_set_unit] at hm
    by_contra hc
    refine hm fun a => ?_
    match a with
    | ⟨0, _⟩ => show p.off 0 ≤ (x 0).val ∧ (x 0).val < p.off 0 + 1; rw [hp.off0]; omega
    | ⟨1, _⟩ => show p.off 1 ≤ (x 1).val ∧ (x 1).val < p.off 1 + 16; rw [hp.off1]; omega

/-- A list of a row's picks, from where the copy stands to the list's end. -/
theorem wp_runPicks (A B O : Chunk .vmem) (XA XB : S32x384.Idx → Elt F .f32) (r : ℕ) (ps : List Pick) :
    ∀ k, k + ps.length ≤ 24 → PicksAt A B r k ps → (Copying d c s A B O XA XB r k : sProp 𝕄)
      ⊢ wp frame (wpE (defs₀ (F := F)) 𝒱₀ (V d c s) none) Set.univ (runPicks c s O ps)
          fun _ => Copying d c s A B O XA XB r (k + ps.length) := by
  induction ps with
  | nil =>
    intro k _ _
    rw [show runPicks (F := F) c s O [] = Prog.ret ⟨⟩ from rfl, wp_ret]
    iintro H; imodintro; iexact H
  | cons p ps ih =>
    rintro k hl ⟨hp, hps⟩
    rw [List.length_cons] at hl
    have ih' := ih (k + 1) (by omega) hps
    rw [show k + (p :: ps).length = k + 1 + ps.length by rw [List.length_cons]; omega]
    unfold Copying at ih' ⊢
    simp only [runPicks, Prog.lift, Prog.bind_op, Prog.bind_ret]
    have e := hp.src
    by_cases hk : k < 12
    · rw [if_pos hk] at e
      subst e
      iintro ⟨HA, HB, %Y, %hY, HO⟩
      iapply (wp_pick d c s O p XA Y) $$ [HA HO]
      · isplitl [HA]
        · iexact HA
        · iexact HO
      iintro %Y' %hY' HA HO
      iapply ih'
      isplitl [HA]
      · iexact HA
      isplitl [HB]
      · iexact HB
      iexists Y'
      isplitr
      · ipureintro; exact hp.done (by omega) (if_pos hk).symm hY hY'.1 hY'.2
      · iexact HO
    · rw [if_neg hk] at e
      subst e
      iintro ⟨HA, HB, %Y, %hY, HO⟩
      iapply (wp_pick d c s O p XB Y) $$ [HB HO]
      · isplitl [HB]
        · iexact HB
        · iexact HO
      iintro %Y' %hY' HB HO
      iapply ih'
      isplitl [HA]
      · iexact HA
      isplitl [HB]
      · iexact HB
      iexists Y'
      isplitr
      · ipureintro; exact hp.done (by omega) (if_neg hk).symm hY hY'.1 hY'.2
      · iexact HO

/-- The column words hold what the picks are to gather. -/
def ColsOk (cols : Fin 24 → IVec S16 32) : Prop := ∀ j x, (cols j x).toNat = colVal j.val (x 0).val

theorem ColsOk.rowOk {cols : Fin 24 → IVec S16 32} (h : ColsOk cols) {row : IVec S16 32} {r : ℕ} (hr : ∀ x, (row x).toNat = r) (hr32 : r < 32) :
    RowOk cols row := (rowOk_iff _ _).mpr fun j a x => by
  have hl : (x 0).val < 16 := (x 0).isLt
  match a with
  | ⟨0, _⟩ => exact (hr x).trans_lt hr32
  | ⟨1, _⟩ =>
    refine (h j x).trans_lt ?_
    show colVal _ _ < 384
    rw [colVal]; split <;> omega

/-- A row's 24 picks. -/
theorem rowPicks_at (A B : Chunk .vmem) {cols : Fin 24 → IVec S16 32} (hc : ColsOk cols) {row : IVec S16 32} {r : ℕ} (hr : ∀ x, (row x).toNat = r)
    (h : RowOk cols row) (offs : Fin 24 → Fin 2 → Nat) (hoffs : ∀ j a, offs j a + S1x16.size a ≤ S32x384.size a)
    (ho : ∀ j a, offs j a = (![r, 16 * j.val] : Fin 2 → Nat) a) : PicksAt A B r 0 (rowPicks A B cols row h offs hoffs) := by
  have gA : ∀ j : Fin 24, j.val < 12 → Good A B r j.val (rowPick cols row h offs hoffs A j) := fun j hj =>
    ⟨(if_pos hj).symm, ho j 0, ho j 1, hr, hc j⟩
  have gB : ∀ j : Fin 24, ¬ j.val < 12 → Good A B r j.val (rowPick cols row h offs hoffs B j) := fun j hj =>
    ⟨(if_neg hj).symm, ho j 0, ho j 1, hr, hc j⟩
  exact ⟨gA 0 (by decide), gA 1 (by decide), gA 2 (by decide), gA 3 (by decide), gA 4 (by decide), gA 5 (by decide),
    gA 6 (by decide), gA 7 (by decide), gA 8 (by decide), gA 9 (by decide), gA 10 (by decide), gA 11 (by decide),
    gB 12 (by decide), gB 13 (by decide), gB 14 (by decide), gB 15 (by decide), gB 16 (by decide), gB 17 (by decide),
    gB 18 (by decide), gB 19 (by decide), gB 20 (by decide), gB 21 (by decide), gB 22 (by decide), gB 23 (by decide), trivial⟩

theorem Copying.row (A B O : Chunk .vmem) (XA XB : S32x384.Idx → Elt F .f32) (r : ℕ) :
    (Copying d c s A B O XA XB r 24 : sProp 𝕄) ⊢ Copying d c s A B O XA XB (r + 1) 0 := by
  unfold Copying
  iintro ⟨HA, HB, %Y, %hY, HO⟩
  isplitl [HA]
  · iexact HA
  isplitl [HB]
  · iexact HB
  iexists Y
  isplitr
  · ipureintro; exact hY.row
  · iexact HO

/-- One trip copies two rows. -/
theorem wp_trip (A B O : Chunk .vmem) (XA XB : S32x384.Idx → Elt F .f32) {cols : Fin 24 → IVec S16 32} (hc : ColsOk cols) (t : ℕ) (ht : t < 16)
    {row₁ row₂ : IVec S16 32} (hr₁ : ∀ x, (row₁ x).toNat = 2 * t) (hr₂ : ∀ x, (row₂ x).toNat = 2 * t + 1)
    (d₁ : Decidable (RowOk cols row₁)) (d₂ : Decidable (RowOk cols row₂)) (offs₁ offs₂ : Fin 24 → Fin 2 → Nat)
    (h₁ : ∀ j a, offs₁ j a + S1x16.size a ≤ S32x384.size a) (h₂ : ∀ j a, offs₂ j a + S1x16.size a ≤ S32x384.size a)
    (ho₁ : ∀ j a, offs₁ j a = (![2 * t, 16 * j.val] : Fin 2 → Nat) a) (ho₂ : ∀ j a, offs₂ j a = (![2 * t + 1, 16 * j.val] : Fin 2 → Nat) a) :
    (Copying d c s A B O XA XB (2 * t) 0 : sProp 𝕄)
      ⊢ wp frame (wpE (defs₀ (F := F)) 𝒱₀ (V d c s) none) Set.univ
          (trip c s A B O cols row₁ row₂ d₁ d₂ offs₁ offs₂ h₁ h₂) fun _ => Copying d c s A B O XA XB (2 * (t + 1)) 0 := by
  have k₁ := hc.rowOk hr₁ (by omega)
  have k₂ := hc.rowOk hr₂ (by omega)
  simp only [trip, Prog.lift, Prog.bind_op, Prog.bind_ret]
  rw [wp_assume_of _ _ _ _ k₁, wp_bind]
  refine (wp_runPicks d c s A B O XA XB (2 * t) _ 0 (le_refl 24) (rowPicks_at A B hc hr₁ k₁ offs₁ h₁ ho₁)).trans (wp_mono _ _ _ fun _ => ?_)
  rw [wp_assume_of _ _ _ _ k₂]
  refine (Copying.row d c s A B O XA XB (2 * t)).trans
    ((wp_runPicks d c s A B O XA XB (2 * t + 1) _ 0 (le_refl 24) (rowPicks_at A B hc hr₂ k₂ offs₂ h₂ ho₂)).trans (wp_mono _ _ _ fun _ => ?_))
  exact Copying.row d c s A B O XA XB (2 * t + 1)

/-- The last row done is the slot done. -/
theorem Copying.finish (A B O : Chunk .vmem) (XA XB : S32x384.Idx → Elt F .f32) :
    (Copying d c s A B O XA XB 32 0 : sProp 𝕄)
      ⊢ iprop(owns (V d c s) A fullShare XA ∗ owns (V d c s) B fullShare XB ∗ owns (V d c s) O fullShare (mix XA XB)) := by
  unfold Copying
  iintro ⟨HA, HB, %Y, %hY, HO⟩
  obtain rfl := hY.all
  isplitl [HA]
  · iexact HA
  isplitl [HB]
  · iexact HB
  iexact HO

theorem Copying.start (A B O : Chunk .vmem) (XA XB Y : S32x384.Idx → Elt F .f32) :
    iprop(owns (V d c s) A fullShare XA ∗ owns (V d c s) B fullShare XB ∗ owns (V d c s) O fullShare Y)
      ⊢ (Copying d c s A B O XA XB 0 0 : sProp 𝕄) := by
  unfold Copying
  iintro ⟨HA, HB, HO⟩
  isplitl [HA]
  · iexact HA
  isplitl [HB]
  · iexact HB
  iexists Y
  isplitr
  · ipureintro; exact Done.zero XA XB Y
  · iexact HO

/-- A copying loop: sixteen trips that each copy two rows copy the slot. -/
theorem wp_copyLoop {β : Type} {Q : β → sProp 𝕄} (A B O : Chunk .vmem) (XA XB Y : S32x384.Idx → Elt F .f32)
    {cols : Fin 24 → IVec S16 32} (hc : ColsOk cols) (l : Scf.Loop 32) (hok : l.OK) (hl : l.trips = 16)
    (row₁ row₂ : Fin l.trips → IVec S16 32) (hr₁ : ∀ t x, (row₁ t x).toNat = 2 * t.val) (hr₂ : ∀ t x, (row₂ t x).toNat = 2 * t.val + 1)
    (d₁ : ∀ t, Decidable (RowOk cols (row₁ t))) (d₂ : ∀ t, Decidable (RowOk cols (row₂ t))) (offs₁ offs₂ : Fin l.trips → Fin 24 → Fin 2 → Nat)
    (h₁ : ∀ t j a, offs₁ t j a + S1x16.size a ≤ S32x384.size a) (h₂ : ∀ t j a, offs₂ t j a + S1x16.size a ≤ S32x384.size a)
    (ho₁ : ∀ t j a, offs₁ t j a = (![2 * t.val, 16 * j.val] : Fin 2 → Nat) a)
    (ho₂ : ∀ t j a, offs₂ t j a = (![2 * t.val + 1, 16 * j.val] : Fin 2 → Nat) a)
    (body : Fin l.trips → Unit → Prog (TpuEff nD τ sig (Elt F) Λ₀ (.scVector c s)) Unit)
    (hbody : ∀ t, body t ⟨⟩ = trip c s A B O cols (row₁ t) (row₂ t) (d₁ t) (d₂ t) (offs₁ t) (offs₂ t) (h₁ t) (h₂ t))
    {k : Unit → Prog (TpuEff nD τ sig (Elt F) Λ₀ (.scVector c s)) β} :
    iprop(owns (V d c s) A fullShare XA ∗ owns (V d c s) B fullShare XB ∗ owns (V d c s) O fullShare Y)
      ⊢ iprop((owns (V d c s) A fullShare XA -∗ owns (V d c s) B fullShare XB -∗ owns (V d c s) O fullShare (mix XA XB)
          -∗ wp frame (wpE (defs₀ (F := F)) 𝒱₀ (V d c s) none) Set.univ (k ⟨⟩) Q)
        -∗ wp frame (wpE (defs₀ (F := F)) 𝒱₀ (V d c s) none) Set.univ (l.for hok ⟨⟩ body >>= k) Q) := by
  refine (Copying.start d c s A B O XA XB Y).trans ?_
  refine (Scf.wp_for_bind frame (wpE (defs₀ (F := F)) 𝒱₀ (V d c s) none) Set.univ l.lb l.ub l.st hok ⟨⟩ body
    (fun n _ => Copying d c s A B O XA XB (2 * n) 0) (fun t acc => ?_)).trans (wand_mono_left ?_)
  · cases acc
    rw [hbody t]
    exact wp_trip d c s A B O XA XB hc t.val (hl ▸ t.isLt) (hr₁ t) (hr₂ t) _ _ _ _ _ _ (ho₁ t) (ho₂ t)
  · iintro Hk %acc H
    cases acc
    rw [show Scf.trips l.lb l.ub l.st = 16 from hl]
    ihave H' := (Copying.finish d c s A B O XA XB) $$ H
    icases H' with ⟨HA, HB, HO⟩
    iapply Hk $$ HA HB HO

/-- The row words of a trip. -/
theorem rowWord0 : ∀ t : Fin k0_t2_loop.trips, (Scalar.addi (Scalar.muli 2#32 (Scf.iv 0#32 1#32 t)) 0#32).toNat = 2 * t.val := by decide +kernel
theorem rowWord1 : ∀ t : Fin k0_t2_loop.trips, (Scalar.addi (Scalar.muli 2#32 (Scf.iv 0#32 1#32 t)) 1#32).toNat = 2 * t.val + 1 := by decide +kernel

end Cert.Proof.KernelIdeal
-- ==== Proof.KernelIdeal.Moves.lean ====
/-
  The kernel's copies between the arrays and the slots. A tile's 1568 rows are 49 chunks of 32 (`chunkOf`); a chunk of an
  input is fetched into a slot, a slot is flushed to a chunk of the output. Each copy in flight promises both ends back,
  the destination holding what the source held.
-/
module

public import proofs.«01_k».proof.Proof.KernelIdeal.Picks

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The arrays the kernel copies between: 50176 rows of 384. -/
abbrev Rows : Type := Memref sig .scVector .hbm S50176x384 .f32

/-! ## The chunks -/

/-- The first row of chunk `k` of the tile at `i`. -/
def row0 (i : grid0.Coords) (k : ℕ) : ℕ := 25088 * (i 0).val + 1568 * (i 1).val + 32 * (k % 49)

theorem row0_inb (i : grid0.Coords) (k : ℕ) (a : Fin 2) : (![row0 i k, 0] : Fin 2 → ℕ) a + S32x384.size a ≤ S50176x384.size a := by
  have h0 : (i 0).val < 2 := (i 0).isLt
  have h1 : (i 1).val < 16 := (i 1).isLt
  have h2 : k % 49 < 49 := Nat.mod_lt _ (by decide)
  match a with
  | ⟨0, _⟩ => show row0 i k + 32 ≤ 50176; unfold row0; omega
  | ⟨1, _⟩ => show 0 + 384 ≤ 384; omega

/-- Chunk `k` of the tile at `i`, as a rectangle of the rows. -/
abbrev chunkRect (i : grid0.Coords) (k : ℕ) : Rect S50176x384 := Rect.unit (s := S50176x384) ![row0 i k, 0] S32x384.size (row0_inb i k)

/-- Chunk `k` of an array. -/
abbrev chunkOf (i : grid0.Coords) (k : ℕ) (W : Rows) : Chunk .hbm := W.slice (chunkRect i k) (fun _ => rfl)

/-- What an array's contents are on chunk `k`. -/
def part (i : grid0.Coords) (k : ℕ) (X : S50176x384.Idx → Elt F .f32) : S32x384.Idx → Elt F .f32 := fun j => X ((chunkRect i k).emb j)

/-- Mixing chunk by chunk is mixing the arrays. -/
theorem mix_part (i : grid0.Coords) (k : ℕ) (XA XB : S50176x384.Idx → Elt F .f32) :
    mix (part i k XA) (part i k XB) = part i k (mix XA XB) := by
  funext x
  have e1 : ((chunkRect i k).emb x 1).val = (x 1).val := by show 0 + 1 * (x 1).val = _; omega
  unfold part mix
  by_cases h : (x 1).val < 192
  · rw [dif_pos h, dif_pos (by rw [e1]; exact h)]
    refine congrArg XA (funext fun a => Fin.ext ?_)
    match a with
    | ⟨0, _⟩ => rfl
    | ⟨1, _⟩ => show 0 + 1 * (2 * (x 1).val) = 2 * ((chunkRect i k).emb x 1).val; rw [e1]; omega
  · rw [dif_neg h, dif_neg (by rw [e1]; exact h)]
    refine congrArg XB (funext fun a => Fin.ext ?_)
    match a with
    | ⟨0, _⟩ => rfl
    | ⟨1, _⟩ => show 0 + 1 * (2 * ((x 1).val - 192) + 1) = 2 * (((chunkRect i k).emb x 1).val - 192) + 1; rw [e1]; omega

variable [FloatOps F] (d : Dev nD) (i : grid0.Coords)

/-- The tile at `i`. -/
abbrev thr : Thread nD τ := V d ((i 0).castLE hcore0) ((i 1).castLE hsub0)

/-! ## A copy and its wait -/

/-- A copy in flight on `sem`: the wait of `N` hands back the destination at `X`, and the source, still at `X`. -/
def Flying (sem : DmaSem sig) (N : ℕ) {sp sp' : Space} (src : Chunk sp) (dst : Chunk sp') (X : S32x384.Idx → Elt F .f32) : sProp 𝕄 :=
  Transfers.Flight countersEmb (thr d i) (.dma sem) (none : HIx 1) N
    iprop(owns (thr d i) dst fullShare X ∗ owns (thr d i) src fullShare X)

theorem wp_send {α : Type} {Q : α → sProp 𝕄} {sp sp' : Space} (src : Chunk sp) (dst : Chunk sp') (sem : DmaSem sig) (X Y : S32x384.Idx → Elt F .f32)
    {h₁ h₂ h₃} {k : PUnit → Prog (TpuEff nD τ sig (Elt F) Λ₀ (thr d i).2) α} :
    iprop(owns (thr d i) src fullShare X ∗ owns (thr d i) dst fullShare Y ∗ semVal (thr d i, .dma sem) 0)
      ⊢ iprop((Flying d i sem (dst.view.amount (.dma sem)) src dst X -∗ wp frame (wpE (defs₀ (F := F)) 𝒱₀ (thr d i) none) Set.univ (k ⟨⟩) Q)
        -∗ wp frame (wpE (defs₀ (F := F)) 𝒱₀ (thr d i) none) Set.univ (.op (.enqueueDma src (.here dst) (.dma sem) h₁ h₂ h₃) k) Q) := by
  unfold owns
  iintro ⟨⟨%f, %hf, Hs⟩, ⟨%g, %hg, Hd⟩, Hv⟩ Hk
  iapply (Transfers.wp_dmaLocal countersEmb 𝒱₀ (thr d i) none (src := src) (dst := dst) (none : HIx 1) (dst.view.amount (.dma sem)) rfl
    (View.amount_pos _ _ (show 0 < S32x384.numel by decide)) (Finset.Subset.refl _)) $$ [Hs Hd Hv]
  · isplitl [Hs]
    · iexact Hs
    isplitl [Hd]
    · iexact Hd
    · iexact Hv
  iintro Hf
  iapply Hk
  unfold Flying
  iapply (Transfers.Flight_mono countersEmb ?_) $$ Hf
  unfold owns
  iintro ⟨Hd, Hs⟩
  isplitl [Hd]
  · iexists (dst.view.write (Elt F) g (src.view.read (Elt F) f) Finset.univ)
    isplitr [Hd]
    · ipureintro; exact (View.read_write_univ _ _).trans hf
    · iexact Hd
  · iexists f
    isplitr
    · ipureintro; exact hf
    · iexact Hs

/-- What the tile still owes, having waited besides only at the launch's own level. -/
def Owing (O : CellTallies nD τ sig (HIx 1)) (W : Waits sig (HIx 1)) : sProp 𝕄 :=
  iprop(Transfers.MayWaits (thr d i) (none : HIx 1) O ∗ ∃ W', ⌜∀ p ∈ W', p ∈ W ∨ p.2 = none⌝ ∗ owes (thr d i) O W')

theorem wp_arrive {α : Type} {Q : α → sProp 𝕄} {sp sp' sp₁ sp₂ : Space} {src : Chunk sp} {dst : Chunk sp'} {sem : DmaSem sig} {X : S32x384.Idx → Elt F .f32}
    {N : ℕ} {srcw : Chunk sp₁} {dstw : Chunk sp₂} (hN : dstw.view.dmaCredit = N) {O : CellTallies nD τ sig (HIx 1)} {W : Waits sig (HIx 1)}
    {h₁ h₂} {k : PUnit → Prog (TpuEff nD τ sig (Elt F) Λ₀ (thr d i).2) α} :
    iprop(Flying d i sem N src dst X ∗ Owing d i O W)
      ⊢ iprop((owns (thr d i) dst fullShare X -∗ owns (thr d i) src fullShare X -∗ semVal (thr d i, .dma sem) 0 -∗ Owing d i O W
          -∗ wp frame (wpE (defs₀ (F := F)) 𝒱₀ (thr d i) none) Set.univ (k ⟨⟩) Q)
        -∗ wp frame (wpE (defs₀ (F := F)) 𝒱₀ (thr d i) none) Set.univ (.op (.waitDma2 sem srcw dstw h₁ h₂) k) Q) := by
  unfold Flying Owing
  iintro ⟨Hf, #Hm, %W', %hW', HO⟩ Hk
  ihave Hmw := (Transfers.MayWaits.elim (.dma sem)) $$ Hm
  iapply (Transfers.wp_waitLocalO countersEmb 𝒱₀ (thr d i) none (none : HIx 1) hN) $$ [Hf HO Hmw]
  · isplitl [Hf]
    · iexact Hf
    isplitl [HO]
    · iexact HO
    · iexact Hmw
  iintro ⟨⟨Hd, Hs⟩, Hv, HO⟩
  iapply Hk $$ Hd Hs Hv
  isplitr
  · iexact Hm
  iexists (insert (SemLoc.dma sem, (none : HIx 1)) W')
  isplitr [HO]
  · ipureintro
    intro p hp
    rcases Finset.mem_insert.mp hp with rfl | hp
    · exact .inr rfl
    · exact hW' p hp
  · iexact HO

/-! ## Fetching and flushing a chunk -/

theorem chunk_off {i : grid0.Coords} {k : ℕ} (hk : k < 49) {off : Fin 2 → ℕ}
    (ho : off = ![25088 * (i 0).val + 1568 * (i 1).val + 32 * k, 0]) : off = ![row0 i k, 0] := by
  rw [ho, row0, Nat.mod_eq_of_lt hk]

/-- Chunk `k` of the input `W` in flight to the slot `sl`. -/
def Fetching (W : Rows) (sl : Chunk .vmem) (sem : DmaSem sig) (X : S50176x384.Idx → Elt F .f32) (k : ℕ) : sProp 𝕄 :=
  Flying d i sem (sl.view.amount (.dma sem)) (chunkOf i k W) sl (part i k X)

/-- The slot `sl` in flight to chunk `k` of the output `W`. -/
def Flushing (W : Rows) (sl : Chunk .vmem) (sem : DmaSem sig) (X : S50176x384.Idx → Elt F .f32) (k : ℕ) : sProp 𝕄 :=
  Flying d i sem ((chunkOf i 0 W).view.amount (.dma sem)) sl (chunkOf i k W) (part i k X)

theorem wp_fetch {α : Type} {Q : α → sProp 𝕄} (W : Rows) (sl : Chunk .vmem) (sem : DmaSem sig) (X : S50176x384.Idx → Elt F .f32) (Y : S32x384.Idx → Elt F .f32)
    (k : ℕ) (hk : k < 49) {off : Fin 2 → ℕ} (ho : off = ![25088 * (i 0).val + 1568 * (i 1).val + 32 * k, 0])
    {inb : ∀ a, off a + S32x384.size a ≤ S50176x384.size a} {h₁ h₂ h₃} {kk : PUnit → Prog (TpuEff nD τ sig (Elt F) Λ₀ (thr d i).2) α} :
    iprop(owns (thr d i) (chunkOf i k W) fullShare (part i k X) ∗ owns (thr d i) sl fullShare Y ∗ semVal (thr d i, .dma sem) 0)
      ⊢ iprop((Fetching d i W sl sem X k -∗ wp frame (wpE (defs₀ (F := F)) 𝒱₀ (thr d i) none) Set.univ (kk ⟨⟩) Q)
        -∗ wp frame (wpE (defs₀ (F := F)) 𝒱₀ (thr d i) none) Set.univ
            (.op (.enqueueDma (W.slice (Rect.unit (s := S50176x384) off S32x384.size inb) (fun _ => rfl)) (.here sl) (.dma sem) h₁ h₂ h₃) kk) Q) := by
  obtain rfl := chunk_off hk ho
  exact wp_send d i (chunkOf i k W) sl sem (part i k X) Y

theorem wp_flush {α : Type} {Q : α → sProp 𝕄} (W : Rows) (sl : Chunk .vmem) (sem : DmaSem sig) (X : S50176x384.Idx → Elt F .f32) (Y : S32x384.Idx → Elt F .f32)
    (k : ℕ) (hk : k < 49) {off : Fin 2 → ℕ} (ho : off = ![25088 * (i 0).val + 1568 * (i 1).val + 32 * k, 0])
    {inb : ∀ a, off a + S32x384.size a ≤ S50176x384.size a} {h₁ h₂ h₃} {kk : PUnit → Prog (TpuEff nD τ sig (Elt F) Λ₀ (thr d i).2) α} :
    iprop(owns (thr d i) sl fullShare (part i k X) ∗ owns (thr d i) (chunkOf i k W) fullShare Y ∗ semVal (thr d i, .dma sem) 0)
      ⊢ iprop((Flushing d i W sl sem X k -∗ wp frame (wpE (defs₀ (F := F)) 𝒱₀ (thr d i) none) Set.univ (kk ⟨⟩) Q)
        -∗ wp frame (wpE (defs₀ (F := F)) 𝒱₀ (thr d i) none) Set.univ
            (.op (.enqueueDma sl (.here (W.slice (Rect.unit (s := S50176x384) off S32x384.size inb) (fun _ => rfl))) (.dma sem) h₁ h₂ h₃) kk) Q) := by
  obtain rfl := chunk_off hk ho
  exact wp_send d i sl (chunkOf i k W) sem (part i k X) Y

theorem wp_fetched {α : Type} {Q : α → sProp 𝕄} {W : Rows} {sl : Chunk .vmem} {sem : DmaSem sig} {X : S50176x384.Idx → Elt F .f32} {k : ℕ}
    {sp₁ sp₂ : Space} {srcw : Chunk sp₁} {dstw : Chunk sp₂} (hN : dstw.view.dmaCredit = sl.view.amount (.dma sem))
    {O : CellTallies nD τ sig (HIx 1)} {Wt : Waits sig (HIx 1)} {h₁ h₂} {kk : PUnit → Prog (TpuEff nD τ sig (Elt F) Λ₀ (thr d i).2) α} :
    iprop(Fetching d i W sl sem X k ∗ Owing d i O Wt)
      ⊢ iprop((owns (thr d i) sl fullShare (part i k X) -∗ owns (thr d i) (chunkOf i k W) fullShare (part i k X)
          -∗ semVal (thr d i, .dma sem) 0 -∗ Owing d i O Wt -∗ wp frame (wpE (defs₀ (F := F)) 𝒱₀ (thr d i) none) Set.univ (kk ⟨⟩) Q)
        -∗ wp frame (wpE (defs₀ (F := F)) 𝒱₀ (thr d i) none) Set.univ (.op (.waitDma2 sem srcw dstw h₁ h₂) kk) Q) :=
  wp_arrive d i hN

theorem wp_flushed {α : Type} {Q : α → sProp 𝕄} {W : Rows} {sl : Chunk .vmem} {sem : DmaSem sig} {X : S50176x384.Idx → Elt F .f32} {k : ℕ}
    {sp₁ sp₂ : Space} {srcw : Chunk sp₁} {dstw : Chunk sp₂} (hN : dstw.view.dmaCredit = (chunkOf i 0 W).view.amount (.dma sem))
    {O : CellTallies nD τ sig (HIx 1)} {Wt : Waits sig (HIx 1)} {h₁ h₂} {kk : PUnit → Prog (TpuEff nD τ sig (Elt F) Λ₀ (thr d i).2) α} :
    iprop(Flushing d i W sl sem X k ∗ Owing d i O Wt)
      ⊢ iprop((owns (thr d i) (chunkOf i k W) fullShare (part i k X) -∗ owns (thr d i) sl fullShare (part i k X)
          -∗ semVal (thr d i, .dma sem) 0 -∗ Owing d i O Wt -∗ wp frame (wpE (defs₀ (F := F)) 𝒱₀ (thr d i) none) Set.univ (kk ⟨⟩) Q)
        -∗ wp frame (wpE (defs₀ (F := F)) 𝒱₀ (thr d i) none) Set.univ (.op (.waitDma2 sem srcw dstw h₁ h₂) kk) Q) :=
  wp_arrive d i hN

/-! ## The chunks not yet taken, and the chunks given back -/

/-- The chunks from `m` on. -/
def Todo (R : ℕ → sProp 𝕄) (m : ℕ) : sProp 𝕄 := bigSep (Finset.Ico m 49) R
/-- The chunks before `n`. -/
def Back (R : ℕ → sProp 𝕄) (n : ℕ) : sProp 𝕄 := bigSep (Finset.range n) R

omit [FloatOps F] in
theorem Todo.take (R : ℕ → sProp 𝕄) {m : ℕ} (hm : m < 49) : Todo R m = iprop(R m ∗ Todo R (m + 1)) := by
  unfold Todo
  rw [show Finset.Ico m 49 = insert m (Finset.Ico (m + 1) 49) by ext x; simp only [Finset.mem_Ico, Finset.mem_insert]; omega]
  exact SparseCore.bigSep_insert' (by simp)

omit [FloatOps F] in
theorem Back.put (R : ℕ → sProp 𝕄) (n : ℕ) : Back R (n + 1) = iprop(R n ∗ Back R n) := by
  unfold Back
  rw [Finset.range_add_one]
  exact SparseCore.bigSep_insert' (by simp)

omit [FloatOps F] in
theorem Back.zero (R : ℕ → sProp 𝕄) : Back R 0 = iprop(emp) := bigSep_empty

omit [FloatOps F] in
theorem Todo.zero (R : ℕ → sProp 𝕄) : Todo R 0 = Back R 49 := by
  unfold Todo Back; rw [Finset.range_eq_Ico]

omit [FloatOps F] in
theorem Todo.none (R : ℕ → sProp 𝕄) : Todo R 49 = iprop(emp) := by
  unfold Todo; rw [Finset.Ico_self]; exact bigSep_empty

end Cert.Proof.KernelIdeal
-- ==== Proof.KernelIdeal.Ring.lean ====
/-
  The ring. Two slots take turns: while one chunk is copied from its input slots to its output slot, the next chunk is on
  its way into the other input slots and the chunk before is on its way out. The invariant at the head of the loop says
  which chunks are in flight, which are still to be fetched, and which are back; one trip moves it two chunks on.
-/
module

public import proofs.«01_k».proof.Proof.KernelIdeal.Moves

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The row words of a trip. -/
theorem rowWord (n : ℕ) (hn : n = 16) (t : Fin n) :
    (Scalar.addi (Scalar.muli 2#32 (Scf.iv 0#32 1#32 t)) 0#32).toNat = 2 * t.val
      ∧ (Scalar.addi (Scalar.muli 2#32 (Scf.iv 0#32 1#32 t)) 1#32).toNat = 2 * t.val + 1 := by
  subst hn; revert t; decide +kernel

variable (d : Dev nD) (i : grid0.Coords)

/-- Chunk `k` of the array `W`, at `X`. -/
abbrev At (W : Rows) (X : S50176x384.Idx → Elt F .f32) (k : ℕ) : sProp 𝕄 := owns (thr d i) (chunkOf i k W) fullShare (part i k X)
/-- Chunk `k` of the array `W`, whatever it holds. -/
abbrev Raw (W : Rows) (k : ℕ) : sProp 𝕄 := iprop(∃ Y : S32x384.Idx → Elt F .f32, owns (thr d i) (chunkOf i k W) fullShare Y)

/-- A slot at rest, whatever it holds, and its semaphore at zero. -/
def Free (sl : Chunk .vmem) (sem : DmaSem sig) : sProp 𝕄 :=
  iprop((∃ Y : S32x384.Idx → Elt F .f32, owns (thr d i) sl fullShare Y) ∗ semVal (thr d i, .dma sem) 0)

/-- An output slot at the head of trip `n`: at rest before the first trip, later in flight with the chunk of the trip before. -/
def OutAt (W : Rows) (sl : Chunk .vmem) (sem : DmaSem sig) (X : S50176x384.Idx → Elt F .f32) (u : ℕ) : ℕ → sProp 𝕄
  | 0 => Free d i sl sem
  | n + 1 => Flushing d i W sl sem X (2 * n + u)

/-- The chunk an output slot's wait gives back in trip `n`: none in the first. -/
def Landed (W : Rows) (X : S50176x384.Idx → Elt F .f32) (u : ℕ) : ℕ → sProp 𝕄
  | 0 => iprop(emp)
  | n + 1 => At d i W X (2 * n + u)

theorem Landed.back (W : Rows) (X : S50176x384.Idx → Elt F .f32) (n : ℕ) :
    iprop(Back (At d i W X) (2 * (n - 1)) ∗ Landed d i W X 0 n ∗ Landed d i W X 1 n) ⊢ (Back (At d i W X) (2 * n) : sProp 𝕄) := by
  cases n with
  | zero =>
    unfold Landed
    iintro ⟨H, -, -⟩; iexact H
  | succ n =>
    unfold Landed
    rw [show 2 * (n + 1) = 2 * n + 1 + 1 by omega, Back.put, Back.put, show n + 1 - 1 = n by omega]
    iintro ⟨H, H0, H1⟩
    isplitl [H1]
    · iexact H1
    isplitl [H0]
    · iexact H0
    · iexact H

/-- The wait for an output slot: in trip 0 there is none. -/
theorem wp_landed {α : Type} {Q : α → sProp 𝕄} (W : Rows) (sl : Chunk .vmem) (sem : DmaSem sig) (X : S50176x384.Idx → Elt F .f32) (u n : ℕ)
    {O : CellTallies nD τ sig (HIx 1)} {Wt : Waits sig (HIx 1)} {b : BitVec 1} (hb : b = 1#1 ↔ 0 < n)
    (K : Prog (TpuEff nD τ sig (Elt F) Λ₀ (thr d i).2) α) (w : b = 1#1 → Prog (TpuEff nD τ sig (Elt F) Λ₀ (thr d i).2) α)
    (hw : ∀ h, ∃ (srcw : Chunk .vmem) (dstw : Chunk .hbm) (h₁ : _) (h₂ : _),
      w h = .op (.waitDma2 sem srcw dstw h₁ h₂) (fun _ => K) ∧ dstw.view.dmaCredit = (chunkOf i 0 W).view.amount (.dma sem)) :
    iprop(OutAt d i W sl sem X u n ∗ Owing d i O Wt)
      ⊢ iprop((Free d i sl sem -∗ Landed d i W X u n -∗ Owing d i O Wt
          -∗ wp frame (wpE (defs₀ (F := F)) 𝒱₀ (thr d i) none) Set.univ K Q)
        -∗ wp frame (wpE (defs₀ (F := F)) 𝒱₀ (thr d i) none) Set.univ (if h : b = 1#1 then w h else K) Q) := by
  cases n with
  | zero =>
    rw [dif_neg (fun h => absurd (hb.mp h) (by omega))]
    simp only [OutAt, Landed]
    iintro ⟨HF, HO⟩ Hk
    iapply Hk $$ HF [] HO
    exact Entails.rfl
  | succ n =>
    have h := hb.mpr (by omega)
    obtain ⟨srcw, dstw, h₁, h₂, e, hN⟩ := hw h
    rw [dif_pos h, e]
    simp only [OutAt, Landed]
    iintro H Hk
    iapply (wp_flushed d i hN) $$ H
    iintro Hd Hs Hv HO
    iapply Hk $$ [Hs Hv] [Hd] HO
    · unfold Free
      isplitl [Hs]
      · iexists _; iexact Hs
      · iexact Hv
    · iexact Hd

section Ring

variable (arg2 : Rows) (harg2 : arg2.IsWhole) (arg3 : Rows) (harg3 : arg3.IsWhole) (arg4 : Rows) (harg4 : arg4.IsWhole) (arg5 : Memref sig .scVector .vmem S2x32x384 .f32) (harg5 : arg5.IsWhole) (arg6 : Memref sig .scVector .vmem S2x32x384 .f32) (harg6 : arg6.IsWhole) (arg7 : Memref sig .scVector .vmem S2x32x384 .f32) (harg7 : arg7.IsWhole)
  (arg8 arg9 arg10 arg11 arg12 arg13 : DmaSems sig S_) (v2 : BitVec 32)
  (v7 v9 v11 v13 v15 v17 v19 v21 v23 v25 v27 v29 v33 v37 v41 v45 v49 v53 v57 v61 v65 v69 v73 v77 : IVec S16 32)
  (XA XB : S50176x384.Idx → Elt F .f32) (O : CellTallies nD τ sig (HIx 1)) (Wt : Waits sig (HIx 1))

/-- The ring at the head of trip `n`. -/
def Ring (n : ℕ) : sProp 𝕄 :=
  iprop(Fetching d i arg2 (slot0 arg5) arg8.sem XA (2 * n) ∗ Fetching d i arg3 (slot0 arg6) arg10.sem XB (2 * n)
    ∗ Free d i (slot1 arg5) arg9.sem ∗ Free d i (slot1 arg6) arg11.sem
    ∗ OutAt d i arg4 (slot0 arg7) arg12.sem (mix XA XB) 0 n ∗ OutAt d i arg4 (slot1 arg7) arg13.sem (mix XA XB) 1 n
    ∗ Back (At d i arg2 XA) (2 * n) ∗ Todo (At d i arg2 XA) (2 * n + 1)
    ∗ Back (At d i arg3 XB) (2 * n) ∗ Todo (At d i arg3 XB) (2 * n + 1)
    ∗ Back (At d i arg4 (mix XA XB)) (2 * (n - 1)) ∗ Todo (Raw d i arg4) (2 * n) ∗ Owing d i O Wt)

theorem cond1_true : ∀ t : Fin k0_t1_loop.trips, k0_cond1 t = 1#1 := by decide +kernel
theorem cond2_iff : ∀ t : Fin k0_t1_loop.trips, k0_cond2 t = 1#1 ↔ 0 < t.val := by decide +kernel
theorem cond3_true : ∀ t : Fin k0_t1_loop.trips, k0_cond3 t = 1#1 := by decide +kernel
theorem cond4_iff : ∀ t : Fin k0_t1_loop.trips, k0_cond4 t = 1#1 ↔ 0 < t.val := by decide +kernel

set_option maxRecDepth 65536 in
set_option maxHeartbeats 4000000 in
theorem ring_trip (hc : ColsOk (colsOf v7 v9 v11 v13 v15 v17 v19 v21 v23 v25 v27 v29 v33 v37 v41 v45 v49 v53 v57 v61 v65 v69 v73 v77)) (c0 : BitVec 32) (t : Fin k0_t1_loop.trips) :
    (Ring d i arg2 arg3 arg4 arg5 arg6 arg7 arg8 arg9 arg10 arg11 arg12 arg13 XA XB O Wt t.val : sProp 𝕄)
      ⊢ wp frame (wpE (defs₀ (F := F)) 𝒱₀ (thr d i) none) Set.univ
          (k0_t1_body (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 c0 t ⟨⟩)
          fun _ => Ring d i arg2 arg3 arg4 arg5 arg6 arg7 arg8 arg9 arg10 arg11 arg12 arg13 XA XB O Wt (t.val + 1) := by
  have ht : t.val < 24 := t.isLt
  unfold k0_t1_body
  simp only [k0_part23_eq_skeleton, k0_part24_eq_skeleton, k0_part23_skel, k0_part24_skel, cond1_true, cond3_true, dite_true, Prog.lift, Prog.bind_op, Prog.bind_ret, Prog.pure_eq_ret]
  unfold Ring Free
  rw [Todo.take (At d i arg2 XA) (show 2 * t.val + 1 < 49 by omega), Todo.take (At d i arg3 XB) (show 2 * t.val + 1 < 49 by omega),
    Todo.take (At d i arg2 XA) (show 2 * t.val + 1 + 1 < 49 by omega), Todo.take (At d i arg3 XB) (show 2 * t.val + 1 + 1 < 49 by omega),
    Todo.take (Raw d i arg4) (show 2 * t.val < 49 by omega), Todo.take (Raw d i arg4) (show 2 * t.val + 1 < 49 by omega)]
  iintro ⟨HfA, HfB, ⟨⟨%YA1, HA1⟩, Hr9⟩, ⟨⟨%YB1, HB1⟩, Hr11⟩, Ho0, Ho1, HbA, ⟨HA', HA'', HtA⟩, HbB, ⟨HB', HB'', HtB⟩, HbO, ⟨HO', HO'', HtO⟩, Hw⟩
  iapply (wp_fetched d i rfl) $$ [HfA Hw]
  · isplitl [HfA]
    · iexact HfA
    · iexact Hw
  iintro HA0 HAk Hr8 Hw
  iapply (wp_fetched d i rfl) $$ [HfB Hw]
  · isplitl [HfB]
    · iexact HfB
    · iexact Hw
  iintro HB0 HBk Hr10 Hw
  iapply (wp_fetch d i arg2 (slot1 arg5) arg9.sem XA YA1 (2 * t.val + 1) (by omega) ((k0_off3_eq i t).trans (congrArg (fun r => ![r, 0]) (by omega)))) $$ [HA' HA1 Hr9]
  · isplitl [HA']
    · iexact HA'
    isplitl [HA1]
    · iexact HA1
    · iexact Hr9
  iintro HfA1
  iapply (wp_fetch d i arg3 (slot1 arg6) arg11.sem XB YB1 (2 * t.val + 1) (by omega) ((k0_off3_eq i t).trans (congrArg (fun r => ![r, 0]) (by omega)))) $$ [HB' HB1 Hr11]
  · isplitl [HB']
    · iexact HB'
    isplitl [HB1]
    · iexact HB1
    · iexact Hr11
  iintro HfB1
  rw [wp_bind]
  iapply (wp_landed d i arg4 (slot0 arg7) arg12.sem (mix XA XB) 0 t.val (cond2_iff t) _ _ ?hw0) $$ [Ho0 Hw]
  case hw0 => intro h; exact ⟨_, _, _, _, rfl, rfl⟩
  · isplitl [Ho0]
    · iexact Ho0
    · iexact Hw
  iintro Ho0 Hl0 Hw
  rw [wp_ret]
  imodintro
  unfold Free
  icases Ho0 with ⟨⟨%YO0, HO0⟩, Hr12⟩
  rw [wp_bind]
  iapply (wp_copyLoop d _ _ (slot0 arg5) (slot0 arg6) (slot0 arg7) (part i (2 * t.val) XA) (part i (2 * t.val) XB) YO0 hc k0_t2_loop k0_t2_ok (by decide)
    _ _ (fun t' x => (rowWord _ (by decide) t').1) (fun t' x => (rowWord _ (by decide) t').2) _ _ (fun t' => offs2a t') (fun t' => offs2b t')
    offs2a_inb offs2b_inb offs2a_eq offs2b_eq _
    (fun t' => t2_body_eq i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 t _ _ t')) $$ [HA0 HB0 HO0]
  · isplitl [HA0]
    · iexact HA0
    isplitl [HB0]
    · iexact HB0
    · iexact HO0
  iintro HA0 HB0 HO0
  rw [mix_part]
  icases HO' with ⟨%YC0, HO'⟩
  iapply (wp_flush d i arg4 (slot0 arg7) arg12.sem (mix XA XB) YC0 (2 * t.val) (by omega) ((k0_off53_eq i t 0).trans (congrArg (fun r => ![r, 0]) (by show _ + 32 * 0 = _; omega)))) $$ [HO0 HO' Hr12]
  · isplitl [HO0]
    · iexact HO0
    isplitl [HO']
    · iexact HO'
    · iexact Hr12
  iintro HfO0
  iapply (wp_fetched d i rfl) $$ [HfA1 Hw]
  · isplitl [HfA1]
    · iexact HfA1
    · iexact Hw
  iintro HA1 HAk1 Hr9 Hw
  iapply (wp_fetched d i rfl) $$ [HfB1 Hw]
  · isplitl [HfB1]
    · iexact HfB1
    · iexact Hw
  iintro HB1 HBk1 Hr11 Hw
  rw [wp_ret]
  imodintro
  iapply (wp_fetch d i arg2 (slot0 arg5) arg8.sem XA _ (2 * t.val + 1 + 1) (by omega) ((k0_off54_eq i t).trans (congrArg (fun r => ![r, 0]) (by omega)))) $$ [HA'' HA0 Hr8]
  · isplitl [HA'']
    · iexact HA''
    isplitl [HA0]
    · iexact HA0
    · iexact Hr8
  iintro HfA
  iapply (wp_fetch d i arg3 (slot0 arg6) arg10.sem XB _ (2 * t.val + 1 + 1) (by omega) ((k0_off54_eq i t).trans (congrArg (fun r => ![r, 0]) (by omega)))) $$ [HB'' HB0 Hr10]
  · isplitl [HB'']
    · iexact HB''
    isplitl [HB0]
    · iexact HB0
    · iexact Hr10
  iintro HfB
  iapply (wp_landed d i arg4 (slot1 arg7) arg13.sem (mix XA XB) 1 t.val (cond4_iff t) _ _ ?hw1) $$ [Ho1 Hw]
  case hw1 => intro h; exact ⟨_, _, _, _, rfl, rfl⟩
  · isplitl [Ho1]
    · iexact Ho1
    · iexact Hw
  iintro Ho1 Hl1 Hw
  unfold Free
  icases Ho1 with ⟨⟨%YO1, HO1⟩, Hr13⟩
  iapply (wp_copyLoop d _ _ (slot1 arg5) (slot1 arg6) (slot1 arg7) (part i (2 * t.val + 1) XA) (part i (2 * t.val + 1) XB) YO1 hc k0_t3_loop k0_t3_ok (by decide)
    _ _ (fun t' x => (rowWord _ (by decide) t').1) (fun t' x => (rowWord _ (by decide) t').2) _ _ (fun t' => offs3a t') (fun t' => offs3b t')
    offs3a_inb offs3b_inb offs3a_eq offs3b_eq _
    (fun t' => t3_body_eq i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 c0 t')) $$ [HA1 HB1 HO1]
  · isplitl [HA1]
    · iexact HA1
    isplitl [HB1]
    · iexact HB1
    · iexact HO1
  iintro HA1 HB1 HO1
  rw [mix_part]
  icases HO'' with ⟨%YC1, HO''⟩
  iapply (wp_flush d i arg4 (slot1 arg7) arg13.sem (mix XA XB) YC1 (2 * t.val + 1) (by omega) ((k0_off53_eq i t 1).trans (congrArg (fun r => ![r, 0]) (by show _ + 32 * 1 = _; omega)))) $$ [HO1 HO'' Hr13]
  · isplitl [HO1]
    · iexact HO1
    isplitl [HO'']
    · iexact HO''
    · iexact Hr13
  iintro HfO1
  rw [wp_ret]
  imodintro
  simp only [OutAt]
  rw [show 2 * (t.val + 1) = 2 * t.val + 1 + 1 by omega, Back.put, Back.put, Back.put, Back.put, show t.val + 1 - 1 = t.val by omega]
  isplitl [HfA]
  · iexact HfA
  isplitl [HfB]
  · iexact HfB
  isplitl [HA1 Hr9]
  · isplitl [HA1]
    · iexists _; iexact HA1
    · iexact Hr9
  isplitl [HB1 Hr11]
  · isplitl [HB1]
    · iexists _; iexact HB1
    · iexact Hr11
  isplitl [HfO0]
  · iexact HfO0
  isplitl [HfO1]
  · iexact HfO1
  isplitl [HbA HAk HAk1]
  · isplitl [HAk1]
    · iexact HAk1
    isplitl [HAk]
    · iexact HAk
    · iexact HbA
  isplitl [HtA]
  · iexact HtA
  isplitl [HbB HBk HBk1]
  · isplitl [HBk1]
    · iexact HBk1
    isplitl [HBk]
    · iexact HBk
    · iexact HbB
  isplitl [HtB]
  · iexact HtB
  isplitl [HbO Hl0 Hl1]
  · iapply (Landed.back d i arg4 (mix XA XB) t.val)
    isplitl [HbO]
    · iexact HbO
    isplitl [Hl0]
    · iexact Hl0
    · iexact Hl1
  isplitl [HtO]
  · iexact HtO
  · iexact Hw

end Ring

end Cert.Proof.KernelIdeal
-- ==== Proof.KernelIdeal.Body.lean ====
/-
  A tile's whole run: the first two fetches, the ring's 24 trips of two chunks, and the last chunk. From the tile's 49
  chunks of both inputs and of the output it gives them back, the output's at the mix of the inputs'.
-/
module

public import proofs.«01_k».proof.Proof.KernelIdeal.Ring

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxRecDepth 65536 in
/-- The kernel's column vectors are the picks' columns. -/
theorem cols_ok : ColsOk (colsOf k0_pay2 k0_pay3 k0_pay4 k0_pay5 k0_pay6 k0_pay7 k0_pay8 k0_pay9 k0_pay10 k0_pay11 k0_pay12 k0_pay13 k0_pay14 k0_pay15 (k0_pay16 k0_pay1 64#32) (k0_pay17 k0_pay1) (k0_pay18 k0_pay1) (k0_pay19 k0_pay1) (k0_pay20 k0_pay1) (k0_pay21 k0_pay1) (k0_pay22 k0_pay1) (k0_pay23 k0_pay1) (k0_pay24 k0_pay1) (k0_pay25 k0_pay1)) := by
  unfold ColsOk; decide +kernel

/-- A counted loop whose trip takes `I n` to `I (n + 1)` takes `I 0` to `I` of its trip count. -/
theorem wp_countLoop (d : Dev nD) (i : grid0.Coords) {β : Type} {Q : β → sProp 𝕄} (I : ℕ → sProp 𝕄) (N : ℕ) (l : Scf.Loop 32) (hok : l.OK) (hl : l.trips = N)
    (body : Fin l.trips → Unit → Prog (TpuEff nD τ sig (Elt F) Λ₀ (.scVector ((i 0).castLE hcore0) ((i 1).castLE hsub0))) Unit)
    (hbody : ∀ t, I t.val ⊢ wp frame (wpE (defs₀ (F := F)) 𝒱₀ (thr d i) none) Set.univ (body t ⟨⟩) fun _ => I (t.val + 1))
    {k : Unit → Prog (TpuEff nD τ sig (Elt F) Λ₀ (.scVector ((i 0).castLE hcore0) ((i 1).castLE hsub0))) β} :
    I 0 ⊢ iprop((I N -∗ wp frame (wpE (defs₀ (F := F)) 𝒱₀ (thr d i) none) Set.univ (k ⟨⟩) Q)
        -∗ wp frame (wpE (defs₀ (F := F)) 𝒱₀ (thr d i) none) Set.univ (l.for hok ⟨⟩ body >>= k) Q) := by
  refine (Scf.wp_for_bind frame (wpE (defs₀ (F := F)) 𝒱₀ (thr d i) none) Set.univ l.lb l.ub l.st hok ⟨⟩ body
    (fun n _ => I n) (fun t acc => ?_)).trans (wand_mono_left ?_)
  · cases acc
    exact hbody t
  · iintro Hk %acc H
    cases acc
    rw [show Scf.trips l.lb l.ub l.st = N from hl]
    iapply Hk $$ H

/-- Every chunk of the output array takes the same number of words to move. -/
theorem credit_chunk (i : grid0.Coords) (W : Rows) (sem : DmaSem sig) (off : Fin 2 → ℕ) (h : ∀ a, off a + S32x384.size a ≤ S50176x384.size a) :
    (W.slice (Rect.unit (s := S50176x384) off S32x384.size h) (fun _ => rfl)).view.dmaCredit = (chunkOf i 0 W).view.amount (.dma sem) := rfl

section Body

variable (d : Dev nD) (i : grid0.Coords)
  (arg2 : Rows) (harg2 : arg2.IsWhole) (arg3 : Rows) (harg3 : arg3.IsWhole) (arg4 : Rows) (harg4 : arg4.IsWhole) (arg5 : Memref sig .scVector .vmem S2x32x384 .f32) (harg5 : arg5.IsWhole) (arg6 : Memref sig .scVector .vmem S2x32x384 .f32) (harg6 : arg6.IsWhole) (arg7 : Memref sig .scVector .vmem S2x32x384 .f32) (harg7 : arg7.IsWhole)
  (arg8 arg9 arg10 arg11 arg12 arg13 : DmaSems sig S_)
  (XA XB : S50176x384.Idx → Elt F .f32) (O : CellTallies nD τ sig (HIx 1)) (Wt : Waits sig (HIx 1))

/-- The six slots at rest with their semaphores at zero. -/
def Slots : sProp 𝕄 :=
  iprop(Free d i (slot0 arg5) arg8.sem ∗ Free d i (slot1 arg5) arg9.sem ∗ Free d i (slot0 arg6) arg10.sem
    ∗ Free d i (slot1 arg6) arg11.sem ∗ Free d i (slot0 arg7) arg12.sem ∗ Free d i (slot1 arg7) arg13.sem)

/-- When the ring is done: the last chunks are on their way in, and the two before them on their way out. -/
def Filled : sProp 𝕄 :=
  iprop(Fetching d i arg2 (slot0 arg5) arg8.sem XA 48 ∗ Fetching d i arg3 (slot0 arg6) arg10.sem XB 48
    ∗ Free d i (slot1 arg5) arg9.sem ∗ Free d i (slot1 arg6) arg11.sem
    ∗ Flushing d i arg4 (slot0 arg7) arg12.sem (mix XA XB) 46 ∗ Flushing d i arg4 (slot1 arg7) arg13.sem (mix XA XB) 47
    ∗ Back (At d i arg2 XA) 48 ∗ Back (At d i arg3 XB) 48 ∗ Back (At d i arg4 (mix XA XB)) 46 ∗ Raw d i arg4 48
    ∗ Owing d i O Wt)

/-- The first input's last chunk has landed in its slot. -/
def Landed38 : sProp 𝕄 :=
  iprop((owns (thr d i) (slot0 arg5) fullShare (part i 48 XA) ∗ At d i arg2 XA 48 ∗ semVal (thr d i, SemLoc.dma arg8.sem) 0)
    ∗ Fetching d i arg3 (slot0 arg6) arg10.sem XB 48
    ∗ Free d i (slot1 arg5) arg9.sem ∗ Free d i (slot1 arg6) arg11.sem
    ∗ Flushing d i arg4 (slot0 arg7) arg12.sem (mix XA XB) 46 ∗ Flushing d i arg4 (slot1 arg7) arg13.sem (mix XA XB) 47
    ∗ Back (At d i arg2 XA) 48 ∗ Back (At d i arg3 XB) 48 ∗ Back (At d i arg4 (mix XA XB)) 46 ∗ Raw d i arg4 48
    ∗ Owing d i O Wt)

/-- The last chunk is on its way out, and so is the one before it. -/
def Leaving : sProp 𝕄 :=
  iprop(Free d i (slot0 arg5) arg8.sem ∗ Free d i (slot0 arg6) arg10.sem
    ∗ Free d i (slot1 arg5) arg9.sem ∗ Free d i (slot1 arg6) arg11.sem
    ∗ Flushing d i arg4 (slot0 arg7) arg12.sem (mix XA XB) 48 ∗ Flushing d i arg4 (slot1 arg7) arg13.sem (mix XA XB) 47
    ∗ Back (At d i arg2 XA) 49 ∗ Back (At d i arg3 XB) 49 ∗ Back (At d i arg4 (mix XA XB)) 47 ∗ Owing d i O Wt)

theorem filled_of_ring : Ring d i arg2 arg3 arg4 arg5 arg6 arg7 arg8 arg9 arg10 arg11 arg12 arg13 XA XB O Wt 24
    ⊢ Filled (F := F) d i arg2 arg3 arg4 arg5 arg6 arg7 arg8 arg9 arg10 arg11 arg12 arg13 XA XB O Wt := by
  unfold Ring Filled
  simp only [OutAt]
  rw [show 2 * 24 = 48 from rfl, show 2 * (24 - 1) = 46 from rfl, Todo.take (Raw d i arg4) (show 48 < 49 by omega)]
  show _ ⊢ _
  rw [show 48 + 1 = 49 from rfl, Todo.none, Todo.none, Todo.none]
  iintro ⟨H1, H2, H3, H4, H5, H6, H7, -, H9, -, H11, ⟨H12, -⟩, H13⟩
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H9]
  · iexact H9
  isplitl [H11]
  · iexact H11
  isplitl [H12]
  · iexact H12
  · iexact H13

variable (v2 : BitVec 32) (v7 v9 v11 v13 v15 v17 v19 v21 v23 v25 v27 v29 v33 v37 v41 v45 v49 v53 v57 v61 v65 v69 v73 v77 : IVec S16 32)

set_option maxRecDepth 65536 in
theorem part38_run (hc : ColsOk (colsOf v7 v9 v11 v13 v15 v17 v19 v21 v23 v25 v27 v29 v33 v37 v41 v45 v49 v53 v57 v61 v65 v69 v73 v77)) (c0 : BitVec 32) :
    iprop(Todo (At d i arg2 XA) 0 ∗ Todo (At d i arg3 XB) 0 ∗ Todo (Raw d i arg4) 0
        ∗ Slots d i arg5 arg6 arg7 arg8 arg9 arg10 arg11 arg12 arg13 ∗ Owing d i O Wt)
      ⊢ (wp frame (wpE (defs₀ (F := F)) 𝒱₀ (thr d i) none) Set.univ (k0_part38 (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 c0)
          fun _ => Landed38 d i arg2 arg3 arg4 arg5 arg6 arg7 arg8 arg9 arg10 arg11 arg12 arg13 XA XB O Wt : sProp 𝕄) := by
  rw [k0_part38_eq_skeleton]
  unfold k0_part38_skel
  simp only [Prog.lift, Prog.bind_op, Prog.bind_ret, Prog.pure_eq_ret]
  rw [Todo.take (At d i arg2 XA) (show 0 < 49 by omega), Todo.take (At d i arg3 XB) (show 0 < 49 by omega)]
  unfold Slots Free
  iintro ⟨⟨HA', HtA⟩, ⟨HB', HtB⟩, HtO, ⟨⟨⟨%YA0, HA0⟩, Hr8⟩, HF9, ⟨⟨%YB0, HB0⟩, Hr10⟩, HF11, HF12, HF13⟩, Hw⟩
  iapply (wp_fetch d i arg2 (slot0 arg5) arg8.sem XA YA0 0 (by omega) ((k0_off1_eq i).trans (congrArg (fun r => ![r, 0]) (by omega)))) $$ [HA' HA0 Hr8]
  · isplitl [HA']
    · iexact HA'
    isplitl [HA0]
    · iexact HA0
    · iexact Hr8
  iintro HfA
  iapply (wp_fetch d i arg3 (slot0 arg6) arg10.sem XB YB0 0 (by omega) ((k0_off1_eq i).trans (congrArg (fun r => ![r, 0]) (by omega)))) $$ [HB' HB0 Hr10]
  · isplitl [HB']
    · iexact HB'
    isplitl [HB0]
    · iexact HB0
    · iexact Hr10
  iintro HfB
  iapply (wp_countLoop d i
    (Ring d i arg2 arg3 arg4 arg5 arg6 arg7 arg8 arg9 arg10 arg11 arg12 arg13 XA XB O Wt) 24 k0_t1_loop k0_t1_ok (by decide)
    (k0_t1_body (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 c0)
    (fun t => ring_trip d i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 XA XB O Wt hc c0 t)) $$ [HfA HfB HF9 HF11 HF12 HF13 HtA HtB HtO Hw]
  · unfold Ring
    simp only [OutAt]
    unfold Free
    rw [show 2 * (0 - 1) = 2 * 0 from rfl, show 2 * 0 = 0 from rfl, Back.zero, Back.zero, Back.zero]
    isplitl [HfA]
    · iexact HfA
    isplitl [HfB]
    · iexact HfB
    isplitl [HF9]
    · iexact HF9
    isplitl [HF11]
    · iexact HF11
    isplitl [HF12]
    · iexact HF12
    isplitl [HF13]
    · iexact HF13
    isplitr
    · exact Entails.rfl
    isplitl [HtA]
    · iexact HtA
    isplitr
    · exact Entails.rfl
    isplitl [HtB]
    · iexact HtB
    isplitr
    · exact Entails.rfl
    isplitl [HtO]
    · iexact HtO
    · iexact Hw
  iintro Hring
  ihave HR := (filled_of_ring d i arg2 arg3 arg4 arg5 arg6 arg7 arg8 arg9 arg10 arg11 arg12 arg13 XA XB O Wt) $$ Hring
  unfold Filled
  icases HR with ⟨HfA, HfB, HF9, HF11, Hf12, Hf13, HbA, HbB, HbO, HO', Hw⟩
  iapply (wp_fetched d i rfl) $$ [HfA Hw]
  · isplitl [HfA]
    · iexact HfA
    · iexact Hw
  iintro HA0 HAk Hr8 Hw
  rw [wp_ret]
  imodintro
  unfold Landed38
  isplitl [HA0 HAk Hr8]
  · isplitl [HA0]
    · iexact HA0
    isplitl [HAk]
    · iexact HAk
    · iexact Hr8
  isplitl [HfB]
  · iexact HfB
  isplitl [HF9]
  · iexact HF9
  isplitl [HF11]
  · iexact HF11
  isplitl [Hf12]
  · iexact Hf12
  isplitl [Hf13]
  · iexact Hf13
  isplitl [HbA]
  · iexact HbA
  isplitl [HbB]
  · iexact HbB
  isplitl [HbO]
  · iexact HbO
  isplitl [HO']
  · iexact HO'
  · iexact Hw

set_option maxRecDepth 65536 in
theorem part39_run (hc : ColsOk (colsOf v7 v9 v11 v13 v15 v17 v19 v21 v23 v25 v27 v29 v33 v37 v41 v45 v49 v53 v57 v61 v65 v69 v73 v77)) :
    Landed38 d i arg2 arg3 arg4 arg5 arg6 arg7 arg8 arg9 arg10 arg11 arg12 arg13 XA XB O Wt
      ⊢ (wp frame (wpE (defs₀ (F := F)) 𝒱₀ (thr d i) none) Set.univ (k0_part39 (F := F) i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77)
          fun _ => Leaving d i arg2 arg3 arg4 arg5 arg6 arg7 arg8 arg9 arg10 arg11 arg12 arg13 XA XB O Wt : sProp 𝕄) := by
  rw [k0_part39_eq_skeleton]
  unfold k0_part39_skel
  simp only [Prog.lift, Prog.bind_op, Prog.bind_ret, Prog.pure_eq_ret]
  unfold Landed38
  iintro ⟨⟨HA0, HAk, Hr8⟩, HfB, HF9, HF11, Hf12, Hf13, HbA, HbB, HbO, ⟨%YC, HO'⟩, Hw⟩
  iapply (wp_fetched d i rfl) $$ [HfB Hw]
  · isplitl [HfB]
    · iexact HfB
    · iexact Hw
  iintro HB0 HBk Hr10 Hw
  iapply (wp_flushed d i (credit_chunk i arg4 _ _ _)) $$ [Hf12 Hw]
  · isplitl [Hf12]
    · iexact Hf12
    · iexact Hw
  iintro HO46 HO0 Hr12 Hw
  iapply (wp_copyLoop d _ _ (slot0 arg5) (slot0 arg6) (slot0 arg7) (part i 48 XA) (part i 48 XB) _ hc k0_t4_loop k0_t4_ok (by decide)
    _ _ (fun t' x => (rowWord _ (by decide) t').1) (fun t' x => (rowWord _ (by decide) t').2) _ _ (fun t' => offs4a t') (fun t' => offs4b t')
    offs4a_inb offs4b_inb offs4a_eq offs4b_eq _
    (fun t' => t4_body_eq i arg2 harg2 arg3 harg3 arg4 harg4 arg5 harg5 arg6 harg6 arg7 harg7 arg8 arg9 arg10 arg11 arg12 arg13 v2 v7 v9 v11 v13 v15 v17 v19 v21 v23 v25 v27 v29 v33 v37 v41 v45 v49 v53 v57 v61 v65 v69 v73 v77 t')) $$ [HA0 HB0 HO0]
  · isplitl [HA0]
    · iexact HA0
    isplitl [HB0]
    · iexact HB0
    · iexact HO0
  iintro HA0 HB0 HO0
  rw [mix_part]
  iapply (wp_flush d i arg4 (slot0 arg7) arg12.sem (mix XA XB) YC 48 (by omega) ((k0_off104_eq i 2).trans (congrArg (fun r => ![r, 0]) (by show _ + 32 * 2 + 1472 = _; omega)))) $$ [HO0 HO' Hr12]
  · isplitl [HO0]
    · iexact HO0
    isplitl [HO']
    · iexact HO'
    · iexact Hr12
  iintro Hf12
  rw [wp_ret]
  imodintro
  unfold Leaving Free
  rw [Back.put (At d i arg2 XA) 48, Back.put (At d i arg3 XB) 48, Back.put (At d i arg4 (mix XA XB)) 46]
  isplitl [HA0 Hr8]
  · isplitl [HA0]
    · iexists (part i 48 XA); iexact HA0
    · iexact Hr8
  isplitl [HB0 Hr10]
  · isplitl [HB0]
    · iexists (part i 48 XB); iexact HB0
    · iexact Hr10
  isplitl [HF9]
  · iexact HF9
  isplitl [HF11]
  · iexact HF11
  isplitl [Hf12]
  · iexact Hf12
  isplitl [Hf13]
  · iexact Hf13
  isplitl [HbA HAk]
  · isplitl [HAk]
    · iexact HAk
    · iexact HbA
  isplitl [HbB HBk]
  · isplitl [HBk]
    · iexact HBk
    · iexact HbB
  isplitl [HbO HO46]
  · isplitl [HO46]
    · iexact HO46
    · iexact HbO
  · iexact Hw

set_option maxRecDepth 65536 in
/-- The whole body. -/
theorem tile_run :
    iprop(Todo (At d i arg2 XA) 0 ∗ Todo (At d i arg3 XB) 0 ∗ Todo (Raw d i arg4) 0
        ∗ Slots d i arg5 arg6 arg7 arg8 arg9 arg10 arg11 arg12 arg13 ∗ Owing d i O Wt)
      ⊢ (wp frame (wpE (defs₀ (F := F)) 𝒱₀ (thr d i) none) Set.univ (cc0__body (F := F) i arg2 harg2 arg3 harg3 arg4 harg4 arg5 harg5 arg6 harg6 arg7 harg7 arg8 arg9 arg10 arg11 arg12 arg13)
          fun _ => iprop(Back (At d i arg2 XA) 49 ∗ Back (At d i arg3 XB) 49 ∗ Back (At d i arg4 (mix XA XB)) 49
            ∗ Slots d i arg5 arg6 arg7 arg8 arg9 arg10 arg11 arg12 arg13 ∗ Owing d i O Wt) : sProp 𝕄) := by
  rw [cc0__body_eq_skeleton]
  unfold cc0__body_skel
  simp only [k0_part36_eq_skeleton, k0_part37_eq_skeleton, k0_part36_skel, k0_part37_skel,
    Prog.lift, Prog.bind_op, Prog.bind_ret, Prog.pure_eq_ret]
  rw [wp_bind]
  refine (part38_run d i arg2 harg2 arg3 harg3 arg4 harg4 arg5 harg5 arg6 harg6 arg7 harg7 arg8 arg9 arg10 arg11 arg12 arg13 XA XB O Wt _ k0_pay2 k0_pay3 k0_pay4 k0_pay5 k0_pay6 k0_pay7 k0_pay8 k0_pay9 k0_pay10 k0_pay11 k0_pay12 k0_pay13 k0_pay14 k0_pay15 (k0_pay16 k0_pay1 64#32) (k0_pay17 k0_pay1) (k0_pay18 k0_pay1) (k0_pay19 k0_pay1) (k0_pay20 k0_pay1) (k0_pay21 k0_pay1) (k0_pay22 k0_pay1) (k0_pay23 k0_pay1) (k0_pay24 k0_pay1) (k0_pay25 k0_pay1) cols_ok _).trans (wp_mono _ _ _ fun _ => ?_)
  rw [wp_bind]
  refine (part39_run d i arg2 harg2 arg3 harg3 arg4 harg4 arg5 harg5 arg6 harg6 arg7 harg7 arg8 arg9 arg10 arg11 arg12 arg13 XA XB O Wt _ k0_pay2 k0_pay3 k0_pay4 k0_pay5 k0_pay6 k0_pay7 k0_pay8 k0_pay9 k0_pay10 k0_pay11 k0_pay12 k0_pay13 k0_pay14 k0_pay15 (k0_pay16 k0_pay1 64#32) (k0_pay17 k0_pay1) (k0_pay18 k0_pay1) (k0_pay19 k0_pay1) (k0_pay20 k0_pay1) (k0_pay21 k0_pay1) (k0_pay22 k0_pay1) (k0_pay23 k0_pay1) (k0_pay24 k0_pay1) (k0_pay25 k0_pay1) cols_ok).trans (wp_mono _ _ _ fun _ => ?_)
  unfold Leaving
  iintro ⟨HF8, HF10, HF9, HF11, Hf12, Hf13, HbA, HbB, HbO, Hw⟩
  iapply (wp_flushed d i (credit_chunk i arg4 _ _ _)) $$ [Hf13 Hw]
  · isplitl [Hf13]
    · iexact Hf13
    · iexact Hw
  iintro HO47 HO1 Hr13 Hw
  iapply (wp_flushed d i (credit_chunk i arg4 _ _ _)) $$ [Hf12 Hw]
  · isplitl [Hf12]
    · iexact Hf12
    · iexact Hw
  iintro HO48 HO0 Hr12 Hw
  rw [wp_ret]
  imodintro
  isplitl [HbA]
  · iexact HbA
  isplitl [HbB]
  · iexact HbB
  isplitl [HbO HO47 HO48]
  · rw [Back.put (At d i arg4 (mix XA XB)) 48, Back.put (At d i arg4 (mix XA XB)) 47]
    isplitl [HO48]
    · iexact HO48
    isplitl [HO47]
    · iexact HO47
    · iexact HbO
  isplitr [Hw]
  · unfold Slots
    isplitl [HF8]
    · iexact HF8
    isplitl [HF9]
    · iexact HF9
    isplitl [HF10]
    · iexact HF10
    isplitl [HF11]
    · iexact HF11
    unfold Free
    isplitl [HO0 Hr12]
    · isplitl [HO0]
      · iexists (part i 48 (mix XA XB)); iexact HO0
      · iexact Hr12
    · isplitl [HO1]
      · iexists (part i 47 (mix XA XB)); iexact HO1
      · iexact Hr13
  · iexact Hw

end Body

end Cert.Proof.KernelIdeal
-- ==== Proof.KernelIdeal.Share.lean ====
/-
  How the arrays and the scratch are shared out: an array whole is every tile's 49 chunks of it, and a two-slot scratch
  is its two slots.
-/
module

public import proofs.«01_k».proof.Proof.KernelIdeal.Body
public import Idealize.ShloMosaic.Lib.Ring

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## The chunks cover the rows -/

/-- A core, a subcore of it and a chunk of its tile. -/
abbrev Place : Type := Fin (grid0.bound 0) × Fin (grid0.bound 1) × Fin 49

abbrev placeRect (t : Place) : Rect S50176x384 := chunkRect (coordsV t.1 t.2.1) t.2.2.val

theorem mem_placeRect (t : Place) (x : S50176x384.Idx) :
    x ∈ (placeRect t).set ↔ 25088 * t.1.val + 1568 * t.2.1.val + 32 * t.2.2.val ≤ (x 0).val
      ∧ (x 0).val < 25088 * t.1.val + 1568 * t.2.1.val + 32 * t.2.2.val + 32 := by
  have hk : t.2.2.val % 49 = t.2.2.val := Nat.mod_eq_of_lt t.2.2.isLt
  have h1 : (x 1).val < 384 := (x 1).isLt
  have e : row0 (coordsV t.1 t.2.1) t.2.2.val = 25088 * t.1.val + 1568 * t.2.1.val + 32 * t.2.2.val := by
    show 25088 * t.1.val + 1568 * t.2.1.val + 32 * (t.2.2.val % 49) = _; rw [hk]
  unfold placeRect chunkRect
  rw [Rect.mem_set_unit]
  constructor
  · intro h
    have h0 := h 0
    rw [← e]
    exact h0
  · intro h a
    match a with
    | ⟨0, _⟩ => rw [← e] at h; exact h
    | ⟨1, _⟩ => exact ⟨Nat.zero_le _, by show (x 1).val < 0 + 384; omega⟩

theorem places_disjoint (t t' : Place) (h : t ≠ t') : Disjoint (placeRect t).set (placeRect t').set := by
  rw [Finset.disjoint_left]
  intro x hx hx'
  rw [mem_placeRect] at hx hx'
  have a1 := t.2.1.isLt; have a2 := t.2.2.isLt; have b1 := t'.2.1.isLt; have b2 := t'.2.2.isLt
  have c1 : t.2.1.val < 16 := a1
  have c2 : t'.2.1.val < 16 := b1
  apply h
  refine Prod.ext (Fin.ext ?_) (Prod.ext (Fin.ext ?_) (Fin.ext ?_)) <;> omega

theorem places_cover : (Finset.univ : Finset Place).biUnion (fun t => (placeRect t).set) = Finset.univ := by
  refine Finset.eq_univ_of_forall fun x => ?_
  rw [Finset.mem_biUnion]
  have h0 : (x 0).val < 50176 := (x 0).isLt
  refine ⟨(⟨(x 0).val / 25088, show _ < 2 by omega⟩, ⟨(x 0).val % 25088 / 1568, show _ < 16 by omega⟩, ⟨(x 0).val % 1568 / 32, by omega⟩), Finset.mem_univ _, ?_⟩
  rw [mem_placeRect]
  constructor <;> dsimp only <;> omega

/-! ## An array is every tile's chunks -/

/-- Every tile's `R`. -/
def Tiles (R : grid0.Coords → sProp 𝕄) : sProp 𝕄 :=
  bigSep Finset.univ fun c : Fin (grid0.bound 0) => bigSep Finset.univ fun s : Fin (grid0.bound 1) => R (coordsV c s)

theorem back_eq (R : ℕ → sProp 𝕄) : Back R 49 = bigSep Finset.univ fun k : Fin 49 => R k.val :=
  (Ring.bigSep_fin_eq_range 49 (fun k : Fin 49 => R k.val) R (fun _ _ => rfl)).symm

theorem tiles_eq (R : grid0.Coords → ℕ → sProp 𝕄) :
    Tiles (fun i => Back (R i) 49) = bigSep Finset.univ fun t : Place => R (coordsV t.1 t.2.1) t.2.2.val := by
  unfold Tiles
  rw [bigSep_univ_prod (fun t : Place => R (coordsV t.1 t.2.1) t.2.2.val)]
  refine bigSep_congr fun c _ => ?_
  rw [bigSep_univ_prod (fun t : Fin (grid0.bound 1) × Fin 49 => R (coordsV c t.1) t.2.val)]
  exact bigSep_congr fun s _ => back_eq _

section Arrays

/-- The array's chunks are owned alike by every tile. -/
def Alike (F : FTy → Type) (d : Dev nD) (W : Rows) : Prop :=
  ∀ (c : Fin τ.nSC) (s : Fin τ.nSub) (i : grid0.Coords) (k : ℕ) (X : S50176x384.Idx → Elt F .f32),
    (owns (V d c s) (chunkOf i k W) fullShare (part i k X) : sProp (MM F)) = owns (V d 0 0) (chunkOf i k W) fullShare (part i k X)

variable (d : Dev nD) (W : Rows) (hW : Alike F d W)
include hW

/-- An array shared out over the tiles, -/
theorem share (X : S50176x384.Idx → Elt F .f32) :
    (owns (V d 0 0) W fullShare X : sProp 𝕄) ⊢ Tiles fun i => Back (At d i W X) 49 := by
  rw [tiles_eq]
  refine (owns_rects (V d 0 0) W fullShare placeRect (fun _ _ => rfl) places_disjoint places_cover X).trans (Entails.of_eq ?_)
  exact bigSep_congr fun t _ => (hW _ _ _ _ X).symm

/-- and gathered again. -/
theorem gather [∀ e, Nonempty (Elt F e)] (X : S50176x384.Idx → Elt F .f32) :
    (Tiles fun i => Back (At d i W X) 49 : sProp 𝕄) ⊢ owns (V d 0 0) W fullShare X := by
  rw [tiles_eq]
  refine (Entails.of_eq ?_).trans (owns_of_rects (V d 0 0) W fullShare placeRect (fun _ _ => rfl) places_disjoint places_cover X)
  exact bigSep_congr fun t _ => hW _ _ _ _ X

end Arrays

/-! ## A scratch is its slots -/

section Scratch

variable (d : Dev nD) (i : grid0.Coords)

abbrev half0 : Rect S2x32x384 := Rect.unit (s := S2x32x384) ![0, 0, 0] S1x32x384.size inb_S2x32x384_S1x32x384_0_0_0
abbrev half1 : Rect S2x32x384 := Rect.unit (s := S2x32x384) ![1, 0, 0] S1x32x384.size inb_S2x32x384_S1x32x384_1_0_0

theorem mem_half0 (x : S2x32x384.Idx) : x ∈ half0.set ↔ (x 0).val = 0 := by
  have h0 : (x 0).val < 2 := (x 0).isLt
  have h1 : (x 1).val < 32 := (x 1).isLt
  have h2 : (x 2).val < 384 := (x 2).isLt
  rw [Rect.mem_set_unit]
  constructor
  · intro h
    have : (x 0).val < 0 + 1 := (h 0).2
    omega
  · intro h a
    match a with
    | ⟨0, _⟩ => exact ⟨Nat.zero_le _, by show (x 0).val < 0 + 1; omega⟩
    | ⟨1, _⟩ => exact ⟨Nat.zero_le _, by show (x 1).val < 0 + 32; omega⟩
    | ⟨2, _⟩ => exact ⟨Nat.zero_le _, by show (x 2).val < 0 + 384; omega⟩

theorem mem_half1 (x : S2x32x384.Idx) : x ∈ half1.set ↔ (x 0).val = 1 := by
  have h0 : (x 0).val < 2 := (x 0).isLt
  have h1 : (x 1).val < 32 := (x 1).isLt
  have h2 : (x 2).val < 384 := (x 2).isLt
  rw [Rect.mem_set_unit]
  constructor
  · intro h
    have : 1 ≤ (x 0).val := (h 0).1
    omega
  · intro h a
    match a with
    | ⟨0, _⟩ => exact ⟨by show 1 ≤ (x 0).val; omega, by show (x 0).val < 1 + 1; omega⟩
    | ⟨1, _⟩ => exact ⟨Nat.zero_le _, by show (x 1).val < 0 + 32; omega⟩
    | ⟨2, _⟩ => exact ⟨Nat.zero_le _, by show (x 2).val < 0 + 384; omega⟩

theorem halves_disjoint : Disjoint half0.set half1.set := by
  rw [Finset.disjoint_left]
  intro x h h'
  rw [mem_half0] at h; rw [mem_half1] at h'; omega

theorem halves_cover : half0.set ∪ half1.set = Finset.univ := by
  refine Finset.eq_univ_of_forall fun x => Finset.mem_union.mpr ?_
  rw [mem_half0, mem_half1]
  have h0 : (x 0).val < 2 := (x 0).isLt
  omega

variable (W : Memref sig .scVector .vmem S2x32x384 .f32)

theorem set_slot0 : (slot0 W).view.set = half0.set.map W.view.emb :=
  (View.set_reshape _ _).trans (View.set_slice _ _)
theorem set_slot1 : (slot1 W).view.set = half1.set.map W.view.emb :=
  (View.set_reshape _ _).trans (View.set_slice _ _)

theorem slots_disjoint : Disjoint (slot0 W).view.set (slot1 W).view.set := by
  rw [set_slot0, set_slot1]; exact (Finset.disjoint_map _).mpr halves_disjoint

theorem slots_cover : ((slot0 W).view.set ∪ (slot1 W).view.set : Finset W.view.ty.Idx) = W.view.set := by
  rw [set_slot0, set_slot1, ← Finset.map_union, halves_cover]; rfl

/-- The scratch, whatever it holds, is its two slots, whatever they hold. -/
theorem slots_split :
    (iprop(∃ X, owns (thr d i) W fullShare X) : sProp 𝕄)
      ⊢ iprop((∃ Y, owns (thr d i) (slot0 W) fullShare Y) ∗ ∃ Y, owns (thr d i) (slot1 W) fullShare Y) := by
  unfold owns
  iintro ⟨%X, %f, -, H⟩
  rw [← slots_cover]
  ihave H' := (pointsTo_union (slots_disjoint W)).1 $$ H
  icases H' with ⟨H0, H1⟩
  isplitl [H0]
  · iexists _, f
    isplitr
    · ipureintro; rfl
    · iexact H0
  · iexists _, f
    isplitr
    · ipureintro; rfl
    · iexact H1

theorem slots_join :
    (iprop((∃ Y, owns (thr d i) (slot0 W) fullShare Y) ∗ ∃ Y, owns (thr d i) (slot1 W) fullShare Y) : sProp 𝕄)
      ⊢ iprop(∃ X, owns (thr d i) W fullShare X) := by
  unfold owns
  iintro ⟨⟨%Y0, %f0, -, H0⟩, ⟨%Y1, %f1, -, H1⟩⟩
  ihave H := (pointsTo_join (ℓ := W.view.loc (thr d i)) (f := f0) (g := f1) (slots_disjoint W)) $$ [H0 H1]
  · isplitl [H0]
    · iexact H0
    · iexact H1
  rw [slots_cover]
  iexists _, ((slot1 W).view.set.piecewise f1 f0)
  isplitr
  · ipureintro; rfl
  · iexact H

end Scratch

end Cert.Proof.KernelIdeal
-- ==== Proof.KernelIdeal.Tile.lean ====
/-
  What each tile is handed and hands back, and the tile's run from its own scratch and semaphores.
-/
module

public import proofs.«01_k».proof.Proof.KernelIdeal.Share
public import Idealize.ShloMosaic.Lib.SparseCore.Quiescent
public import Idealize.ShloMosaic.Lib.StableHlo.Run

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The two inputs' rows and the output's rows. -/
abbrev aW : Rows := Memref.whole main_v1_scv
abbrev bW : Rows := Memref.whole main_v3_scv
abbrev oW : Rows := Memref.whole main_v4_scv

/-! ## What a tile takes and gives back -/

section Payload

variable (XA XB : Dev nD → S50176x384.Idx → Elt F .f32)

def TileIn (d : Dev nD) (i : grid0.Coords) : sProp 𝕄 :=
  iprop(Back (At d i aW (XA d)) 49 ∗ Back (At d i bW (XB d)) 49 ∗ Back (Raw d i oW) 49)

def TileOut (d : Dev nD) (i : grid0.Coords) : sProp 𝕄 :=
  iprop(Back (At d i aW (XA d)) 49 ∗ Back (At d i bW (XB d)) 49 ∗ Back (At d i oW (mix (XA d) (XB d))) 49)

instance tileIn_storable (d : Dev nD) (i : grid0.Coords) : BI.Storable (upEmb : UEmb _ 𝕄) (TileIn XA XB d i) := by
  unfold TileIn Back At Raw; infer_instance
instance tileOut_storable (d : Dev nD) (i : grid0.Coords) : BI.Storable (upEmb : UEmb _ 𝕄) (TileOut XA XB d i) := by
  unfold TileOut Back At; infer_instance

/-- What the tiles of core `c` take, and give back. -/
def CoreIn (d : Dev nD) (c : Fin (grid0.bound 0)) : sProp 𝕄 := bigSep Finset.univ fun s : Fin (grid0.bound 1) => TileIn XA XB d (coordsV c s)
def CoreOut (d : Dev nD) (c : Fin (grid0.bound 0)) : sProp 𝕄 := bigSep Finset.univ fun s : Fin (grid0.bound 1) => TileOut XA XB d (coordsV c s)

instance coreIn_storable (d : Dev nD) (c) : BI.Storable (upEmb : UEmb _ 𝕄) (CoreIn XA XB d c) := by unfold CoreIn; infer_instance
instance coreOut_storable (d : Dev nD) (c) : BI.Storable (upEmb : UEmb _ 𝕄) (CoreOut XA XB d c) := by unfold CoreOut; infer_instance

theorem nCore_zero : (K (F := F)).nCore 0 = grid0.bound 0 := rfl
theorem nSub_zero : (K (F := F)).nSub 0 = grid0.bound 1 := rfl

/-- The call's payloads: each core its tiles' chunks, each tile its own. -/
def P : (K (F := F)).Pay (nD := nD) (Val := Elt F) (Name := ℕ) (U := UU) where
  st := fun q d c => match q with | 0 => CoreIn XA XB d (Fin.cast nCore_zero c)
  dn := fun q d c => match q with | 0 => CoreOut XA XB d (Fin.cast nCore_zero c)
  go := fun q d c s => match q with | 0 => TileIn XA XB d (coordsV (Fin.cast nCore_zero c) (Fin.cast nSub_zero s))
  td := fun q d c s => match q with | 0 => TileOut XA XB d (coordsV (Fin.cast nCore_zero c) (Fin.cast nSub_zero s))
  x := fun _ _ => iprop(emp)

instance P_storable : (P (F := F) XA XB).IsStorable where
  st q d c := match q with | 0 => coreIn_storable XA XB d _
  dn q d c := match q with | 0 => coreOut_storable XA XB d _
  go q d c s := match q with | 0 => tileIn_storable XA XB d _
  td q d c s := match q with | 0 => tileOut_storable XA XB d _

theorem give_and_take (A B : sProp 𝕄) : A ⊢ |={Set.univ}=> iprop(A ∗ (B -∗ B)) := by
  iintro H
  imodintro
  isplitl [H]
  · iexact H
  · iintro H
    iexact H

theorem tasks_eq (Φ : Fin (grid0.bound 1) → sProp 𝕄) :
    (bigSep Finset.univ fun s : Fin ((K (F := F)).nSub 0) => Φ (Fin.cast nSub_zero s)) = bigSep Finset.univ Φ :=
  bigSep_congr fun _ _ => congrArg Φ (Fin.ext rfl)

theorem vecSplit : (K (F := F)).VecSplit' (P XA XB) 0 := by
  intro d c
  dsimp only [P]
  rw [tasks_eq (F := F) (fun s => TileIn XA XB d (coordsV (Fin.cast nCore_zero c) s)), tasks_eq (F := F) (fun s => TileOut XA XB d (coordsV (Fin.cast nCore_zero c) s))]
  exact give_and_take _ _

end Payload

/-! ## A tile's own scratch and semaphores -/

section Own

variable (d : Dev nD) (i : grid0.Coords)

/-- The six semaphores of the kernel. -/
abbrev sems : Finset (SemLoc sig) :=
  {.dma cc0_scratch3.sem, .dma cc0_scratch4.sem, .dma cc0_scratch5.sem, .dma cc0_scratch6.sem, .dma cc0_scratch7.sem, .dma cc0_scratch8.sem}

theorem ownSems0_tile : ∃ R : sProp 𝕄, (ownSems0 (thr d i) : sProp 𝕄)
    = iprop((semVal (thr d i, .dma cc0_scratch3.sem) 0 ∗ semVal (thr d i, .dma cc0_scratch4.sem) 0 ∗ semVal (thr d i, .dma cc0_scratch5.sem) 0
        ∗ semVal (thr d i, .dma cc0_scratch6.sem) 0 ∗ semVal (thr d i, .dma cc0_scratch7.sem) 0 ∗ semVal (thr d i, .dma cc0_scratch8.sem) 0) ∗ R) := by
  refine ⟨bigSep (ownCells (thr d i) \ sems.image fun sm => ((thr d i, sm) : GSem nD τ sig)) fun g => semVal g 0, ?_⟩
  unfold SparseCore.Cfg.ownSems0
  rw [SparseCore.bigSep_sdiff_split' (t := sems.image fun sm => ((thr d i, sm) : GSem nD τ sig)) (by
      intro g hg
      obtain ⟨sm, hsm, rfl⟩ := Finset.mem_image.mp hg
      refine mem_ownCells.mpr ⟨rfl, ?_⟩
      show sm.isScoped .scVector = true
      exact (show ∀ sm ∈ sems, sm.isScoped .scVector = true by decide) sm hsm),
    SparseCore.bigSep_image_of_injOn (fun a _ b _ e => (Prod.mk.inj e).2)]
  unfold sems
  rw [SparseCore.bigSep_insert' (by decide), SparseCore.bigSep_insert' (by decide), SparseCore.bigSep_insert' (by decide),
    SparseCore.bigSep_insert' (by decide), SparseCore.bigSep_insert' (by decide), bigSep_singleton]

/-- The three scratches of the kernel. -/
abbrev scratches : Finset (Ref sig .scVector) := {cc0_scratch0, cc0_scratch1, cc0_scratch2}

theorem ownBufs_tile : ∃ R : sProp 𝕄, (ownBufs (thr d i) : sProp 𝕄)
    = iprop(((∃ f, (thr d i).loc cc0_scratch0 ↦{fullShare} f) ∗ (∃ f, (thr d i).loc cc0_scratch1 ↦{fullShare} f)
        ∗ (∃ f, (thr d i).loc cc0_scratch2 ↦{fullShare} f)) ∗ R) := by
  refine ⟨bigSep (ownRefs (thr d i).2 \ scratches.image fun b => (thr d i).2.devRef b) fun b => iprop(∃ f, ((d, b) : Loc nD τ sig) ↦{fullShare} f), ?_⟩
  unfold SparseCore.Cfg.ownBufs
  rw [SparseCore.bigSep_sdiff_split' (t := scratches.image fun b => (thr d i).2.devRef b) (by
      intro g hg
      obtain ⟨b, hb, rfl⟩ := Finset.mem_image.mp hg
      refine SparseCore.Cfg.mem_ownRefs_of_owner ?_
      rcases Finset.mem_insert.mp hb with rfl | hb
      · rfl
      rcases Finset.mem_insert.mp hb with rfl | hb
      · rfl
      obtain rfl := Finset.mem_singleton.mp hb
      rfl),
    SparseCore.bigSep_image_of_injOn (fun a _ b _ e => Proc.devRef_injective _ e)]
  unfold scratches
  rw [SparseCore.bigSep_insert' (show (cc0_scratch0 : Ref sig .scVector) ∉ ({cc0_scratch1, cc0_scratch2} : Finset (Ref sig .scVector)) by decide),
    SparseCore.bigSep_insert' (show (cc0_scratch1 : Ref sig .scVector) ∉ ({cc0_scratch2} : Finset (Ref sig .scVector)) by decide), bigSep_singleton]

/-- A scratch whole is its two slots, whatever they hold. -/
theorem scratch_split (b : Ref sig .scVector) (W : Memref sig .scVector .vmem S2x32x384 .f32)
    (h : (iprop(∃ X, owns (thr d i) W fullShare X) : sProp 𝕄) = iprop(∃ f, (thr d i).loc b ↦{fullShare} f)) :
    (iprop(∃ f, (thr d i).loc b ↦{fullShare} f) : sProp 𝕄)
      ⊢ iprop((∃ Y, owns (thr d i) (slot0 W) fullShare Y) ∗ ∃ Y, owns (thr d i) (slot1 W) fullShare Y) :=
  h ▸ slots_split d i W

theorem scratch_join (b : Ref sig .scVector) (W : Memref sig .scVector .vmem S2x32x384 .f32)
    (h : (iprop(∃ X, owns (thr d i) W fullShare X) : sProp 𝕄) = iprop(∃ f, (thr d i).loc b ↦{fullShare} f)) :
    (iprop((∃ Y, owns (thr d i) (slot0 W) fullShare Y) ∗ ∃ Y, owns (thr d i) (slot1 W) fullShare Y) : sProp 𝕄)
      ⊢ iprop(∃ f, (thr d i).loc b ↦{fullShare} f) :=
  h ▸ slots_join d i W

theorem scratch0_eq : (iprop(∃ X, owns (thr d i) (Memref.whole cc0_scratch0) fullShare X) : sProp 𝕄) = iprop(∃ f, (thr d i).loc cc0_scratch0 ↦{fullShare} f) := by
  congr 1; funext X; exact owns_whole (thr d i) cc0_scratch0 fullShare X
theorem scratch1_eq : (iprop(∃ X, owns (thr d i) (Memref.whole cc0_scratch1) fullShare X) : sProp 𝕄) = iprop(∃ f, (thr d i).loc cc0_scratch1 ↦{fullShare} f) := by
  congr 1; funext X; exact owns_whole (thr d i) cc0_scratch1 fullShare X
theorem scratch2_eq : (iprop(∃ X, owns (thr d i) (Memref.whole cc0_scratch2) fullShare X) : sProp 𝕄) = iprop(∃ f, (thr d i).loc cc0_scratch2 ↦{fullShare} f) := by
  congr 1; funext X; exact owns_whole (thr d i) cc0_scratch2 fullShare X

abbrev KSlots : sProp 𝕄 :=
  Slots d i (Memref.whole cc0_scratch0) (Memref.whole cc0_scratch1) (Memref.whole cc0_scratch2) cc0_scratch3 cc0_scratch4 cc0_scratch5 cc0_scratch6 cc0_scratch7 cc0_scratch8

/-- A tile's own scratch and semaphores are its slots at rest and a rest, both ways. -/
theorem own_slots : ∃ R : sProp 𝕄, ((iprop(ownBufs (thr d i) ∗ ownSems0 (thr d i)) : sProp 𝕄) ⊢ iprop(KSlots d i ∗ R))
    ∧ (iprop(KSlots d i ∗ R) ⊢ (iprop(ownBufs (thr d i) ∗ ownSems0 (thr d i)) : sProp 𝕄)) := by
  obtain ⟨R1, h1⟩ := ownBufs_tile (F := F) d i
  obtain ⟨R2, h2⟩ := ownSems0_tile (F := F) d i
  refine ⟨iprop(R1 ∗ R2), ?_, ?_⟩
  · rw [h1, h2]
    unfold KSlots Slots Free
    iintro ⟨⟨⟨H0, H1, H2⟩, HR1⟩, ⟨S3, S4, S5, S6, S7, S8⟩, HR2⟩
    ihave H0' := (scratch_split d i cc0_scratch0 _ (scratch0_eq d i)) $$ H0
    ihave H1' := (scratch_split d i cc0_scratch1 _ (scratch1_eq d i)) $$ H1
    ihave H2' := (scratch_split d i cc0_scratch2 _ (scratch2_eq d i)) $$ H2
    icases H0' with ⟨A0, A1⟩
    icases H1' with ⟨B0, B1⟩
    icases H2' with ⟨C0, C1⟩
    isplitr [HR1 HR2]
    · isplitl [A0 S3]
      · isplitl [A0] <;> iassumption
      isplitl [A1 S4]
      · isplitl [A1] <;> iassumption
      isplitl [B0 S5]
      · isplitl [B0] <;> iassumption
      isplitl [B1 S6]
      · isplitl [B1] <;> iassumption
      isplitl [C0 S7]
      · isplitl [C0] <;> iassumption
      · isplitl [C1] <;> iassumption
    · isplitl [HR1] <;> iassumption
  · rw [h1, h2]
    unfold KSlots Slots Free
    iintro ⟨⟨⟨A0, S3⟩, ⟨A1, S4⟩, ⟨B0, S5⟩, ⟨B1, S6⟩, ⟨C0, S7⟩, ⟨C1, S8⟩⟩, HR1, HR2⟩
    ihave H0 := (scratch_join d i cc0_scratch0 _ (scratch0_eq d i)) $$ [A0 A1]
    · isplitl [A0] <;> iassumption
    ihave H1 := (scratch_join d i cc0_scratch1 _ (scratch1_eq d i)) $$ [B0 B1]
    · isplitl [B0] <;> iassumption
    ihave H2 := (scratch_join d i cc0_scratch2 _ (scratch2_eq d i)) $$ [C0 C1]
    · isplitl [C0] <;> iassumption
    isplitl [H0 H1 H2 HR1]
    · isplitr [HR1]
      · isplitl [H0]
        · iexact H0
        isplitl [H1]
        · iexact H1
        · iexact H2
      · iexact HR1
    · isplitr [HR2]
      · isplitl [S3]
        · iexact S3
        isplitl [S4]
        · iexact S4
        isplitl [S5]
        · iexact S5
        isplitl [S6]
        · iexact S6
        isplitl [S7]
        · iexact S7
        · iexact S8
      · iexact HR2

end Own

/-! ## The tile's run -/

section Run

variable [FloatOps F] (XA XB : Dev nD → S50176x384.Idx → Elt F .f32) (d : Dev nD) (i : grid0.Coords)

theorem tile_body (hF : (K (F := F)).Facts) (O : CellTallies nD τ sig (HIx 1)) (W : Waits sig (HIx 1)) (hO : ∀ g, O g none = 0) :
    iprop(levAts (K (F := F)).L (K (F := F)).lev ∗ emp ∗ TileIn XA XB d i
        ∗ scopedBufs (thr d i) ∗ scopedSems0 (thr d i) ∗ owes (thr d i) O W)
      ⊢ (wp frame (wpE (defs₀ (F := F)) 𝒱₀ (thr d i) none) Set.univ
          (cc0__body (F := F) i aW (Memref.isWhole_whole _) bW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8)
          fun _ => iprop(TileOut XA XB d i ∗ scopedBufs (thr d i) ∗ scopedSems0 (thr d i)
            ∗ ∃ W', ⌜∀ p ∈ W', p ∈ W ∨ p.2 = none⌝ ∗ owes (thr d i) O W') : sProp 𝕄) := by
  obtain ⟨R, h1, h2⟩ := own_slots (F := F) d i
  rw [(K (F := F)).scopedBufs_V hF d _ _, SparseCore.Cfg.scopedSems0_V (Val := Elt F) d _ _]
  iintro ⟨#Hlv, -, Hin, Hb, Hs, HO⟩
  ihave Hmw := ((K (F := F)).mayWaits_none (thr := thr d i) hO) $$ Hlv
  ihave HS := h1 $$ [Hb Hs]
  · isplitl [Hb] <;> iassumption
  icases HS with ⟨Hsl, HR⟩
  unfold TileIn
  icases Hin with ⟨HA, HB, HC⟩
  ihave Hwp := (tile_run d i aW (Memref.isWhole_whole _) bW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8
            (XA d) (XB d) O W) $$ [HA HB HC Hsl Hmw HO]
  · rw [Todo.zero, Todo.zero, Todo.zero]
    isplitl [HA]
    · iexact HA
    isplitl [HB]
    · iexact HB
    isplitl [HC]
    · iexact HC
    isplitl [Hsl]
    · iexact Hsl
    unfold Owing
    isplitl [Hmw]
    · iexact Hmw
    iexists W
    isplitr
    · ipureintro; exact fun p hp => .inl hp
    · iexact HO
  ihave Hwp' := (wp_wand frame _ _) $$ Hwp
  iapply Hwp'
  unfold Owing
  iintro %_ ⟨HA, HB, HC, Hsl, Hmw, HW⟩
  ihave HS := h2 $$ [Hsl HR]
  · isplitl [Hsl] <;> iassumption
  icases HS with ⟨Hb, Hs⟩
  isplitl [HA HB HC]
  · unfold TileOut
    isplitl [HA]
    · iexact HA
    isplitl [HB]
    · iexact HB
    · iexact HC
  isplitl [Hb]
  · iexact Hb
  isplitl [Hs]
  · iexact Hs
  · iexact HW

end Run

end Cert.Proof.KernelIdeal
-- ==== Proof.KernelIdeal.Launch.lean ====
/-
  The launch: every tile meets its obligation, and the three arrays are shared out to the tiles and gathered again.
-/
module

public import proofs.«01_k».proof.Proof.KernelIdeal.Tile
public import Idealize.ShloMosaic.Lib.StableHlo.Run

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' obligation -/

section Tiles

variable [FloatOps F]

theorem defs₀_vector (c : Fin τ.nSC) (s : Fin τ.nSub) :
    defs₀ (F := F) (.scVector c s) 0 ()
      = SparseCore.onTile hcore0 hsub0 (fun c s => cc0__body (F := F) (coordsV c s)
          aW (Memref.isWhole_whole _) bW (Memref.isWhole_whole _) oW (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (XA XB : Dev nD → S50176x384.Idx → Elt F .f32)

theorem tileObl (hF : (K (F := F)).Facts) : (K (F := F)).TileObl (D (F := F)) 𝒱 (P XA XB) v₀ 0 := by
  intro d c i O W hO _ _
  simp only [show (P XA XB).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body XA XB d (coordsV ⟨_, hc.1⟩ ⟨_, hc.2⟩) hF O W hO).trans (wp_mono frame _ _ fun _ => obl_post)

end Tiles

/-! ## The launch's ghost state -/

def u₀ : UU := (initOf (K (F := F)).hsCells (K (F := F)).hsToks, 1)

section Ghost

variable (XA XB : Dev nD → S50176x384.Idx → Elt F .f32)

theorem none_of {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) XA XB).x q thr) := by
  unfold u₀
  iintro Hu
  ihave H := (ownU_pair _ _) $$ Hu
  icases H with ⟨HH, -⟩
  imodintro
  isplitl [HH]; · iexact HH
  isplitr
  · rw [none_of]; iempintro
  · rw [show (fun thr : Thread nD τ => bigSep Finset.univ fun q : Fin 1 => (P (F := F) XA XB).x q thr) = fun _ => (iprop(emp) : sProp 𝕄) from
      funext fun _ => none_of _, none_of]
    iempintro

end Ghost

/-! ## The call's operands and results -/

section Arrays

variable (d : Dev nD)

theorem alike_a : Alike F d aW := fun _ _ _ _ _ => rfl
theorem alike_b : Alike F d bW := fun _ _ _ _ _ => rfl
theorem alike_o : Alike F d oW := fun _ _ _ _ _ => rfl

theorem tiles_sep (A B C : grid0.Coords → sProp 𝕄) : (Tiles fun i => iprop(A i ∗ B i ∗ C i)) = iprop(Tiles A ∗ Tiles B ∗ Tiles C) := by
  unfold Tiles
  simp only [bigSep_sep']

theorem tiles_mono {A B : grid0.Coords → sProp 𝕄} (h : ∀ i, A i ⊢ B i) : Tiles A ⊢ Tiles B :=
  bigSep_mono fun c _ => bigSep_mono fun s _ => h (coordsV c s)

theorem to_raw (i : grid0.Coords) (W : Rows) (X : S50176x384.Idx → Elt F .f32) : (Back (At d i W X) 49 : sProp 𝕄) ⊢ Back (Raw d i W) 49 :=
  bigSep_mono fun k _ => by
    show (At d i W X k : sProp 𝕄) ⊢ iprop(∃ Y : S32x384.Idx → Elt F .f32, owns (thr d i) (chunkOf i k W) fullShare Y)
    iintro H
    iexists _
    iexact H

variable (XA XB : Dev nD → S50176x384.Idx → Elt F .f32)

theorem cores_eq (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem st_eq : (bigSep Finset.univ fun c : Fin ((K (F := F)).nCore 0) => (P XA XB).st 0 d c) = Tiles (TileIn XA XB d) := by
  dsimp only [P]
  rw [cores_eq (F := F) (CoreIn XA XB d)]
  unfold Tiles CoreIn
  rfl

theorem dn_eq : (bigSep Finset.univ fun c : Fin ((K (F := F)).nCore 0) => (P XA XB).dn 0 d c) = Tiles (TileOut XA XB d) := by
  dsimp only [P]
  rw [cores_eq (F := F) (CoreOut XA XB d)]
  unfold Tiles CoreOut
  rfl

/-- The three arrays, whole, become what the tiles take, -/
theorem deal (Y : S50176x384.Idx → Elt F .f32) :
    iprop(owns (V d 0 0) aW fullShare (XA d) ∗ owns (V d 0 0) bW fullShare (XB d) ∗ owns (V d 0 0) oW fullShare Y)
      ⊢ (bigSep Finset.univ fun c : Fin ((K (F := F)).nCore 0) => (P XA XB).st 0 d c : sProp 𝕄) := by
  rw [st_eq]
  unfold TileIn
  rw [tiles_sep]
  iintro ⟨HA, HB, HO⟩
  isplitl [HA]
  · iapply (share d aW (alike_a d) (XA d)); iexact HA
  isplitl [HB]
  · iapply (share d bW (alike_b d) (XB d)); iexact HB
  · iapply ((share d oW (alike_o d) Y).trans (tiles_mono fun i => to_raw d i oW Y)); iexact HO

/-- and what the tiles give back is the three arrays again, the third the mix of the other two. -/
theorem collect [∀ e, Nonempty (Elt F e)] :
    (bigSep Finset.univ fun c : Fin ((K (F := F)).nCore 0) => (P XA XB).dn 0 d c : sProp 𝕄)
      ⊢ iprop(owns (V d 0 0) aW fullShare (XA d) ∗ owns (V d 0 0) bW fullShare (XB d) ∗ owns (V d 0 0) oW fullShare (mix (XA d) (XB d))) := by
  rw [dn_eq]
  unfold TileOut
  rw [tiles_sep]
  iintro ⟨HA, HB, HO⟩
  isplitl [HA]
  · iapply (gather d aW (alike_a d) (XA d)); iexact HA
  isplitl [HB]
  · iapply (gather d bW (alike_b d) (XB d)); iexact HB
  · iapply (gather d oW (alike_o d) (mix (XA d) (XB d))); iexact HO

end Arrays

end Cert.Proof.KernelIdeal

end
-- ==== Proof.KernelIdeal.Main.lean ====
/-
  The program: its host operations and its one call, and what it leaves in memory.
-/
module

public import proofs.«01_k».proof.Proof.KernelIdeal.Launch
public import Idealize.ShloMosaic.Lib.StableHlo.Run

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable [FloatOps F]

/-! ## The arrays and the host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- Channels last, and its inverse. -/
abbrev toLast : (⟨S16x384x56x56, .f32⟩ : BufTy).Contents (Elt F) → (⟨S16x56x56x384, .f32⟩ : BufTy).Contents (Elt F) :=
  (transpose S16x56x56x384 [0, 2, 3, 1] · transposes_S16x384x56x56_S16x56x56x384_0_2_3_1)
abbrev toFirst : (⟨S16x56x56x384, .f32⟩ : BufTy).Contents (Elt F) → (⟨S16x384x56x56, .f32⟩ : BufTy).Contents (Elt F) :=
  (transpose S16x384x56x56 [0, 3, 1, 2] · transposes_S16x56x56x384_S16x384x56x56_0_3_1_2)

abbrev op0 : HloOp τ sig (Elt F) := StableHlo.unary main_arg0 main_v0 toLast
abbrev op1 : HloOp τ sig (Elt F) := StableHlo.reshape main_v0 main_v1 (rfl : (.f32 : EltTy) = .f32) shapeCasts_S16x56x56x384_S50176x384
abbrev op2 : HloOp τ sig (Elt F) := StableHlo.unary main_arg1 main_v2 toLast
abbrev op3 : HloOp τ sig (Elt F) := StableHlo.reshape main_v2 main_v3 (rfl : (.f32 : EltTy) = .f32) shapeCasts_S16x56x56x384_S50176x384
abbrev op5 : HloOp τ sig (Elt F) := StableHlo.reshape main_v4 main_v5 (rfl : (.f32 : EltTy) = .f32) shapeCasts_S50176x384_S16x56x56x384
abbrev op6 : HloOp τ sig (Elt F) := StableHlo.unary main_v5 main_v6 toFirst

/-- The arrays the call leaves alone, and all of them. -/
abbrev idle : Finset (DevRef τ sig) := {a0', a1', v0', v2', v5', v6'}
abbrev all : Finset (DevRef τ sig) := insert v1' (insert v3' (insert v4' idle))

theorem hop0 : (op0 (F := F)).bufs ⊆ all := show ({a0', v0'} : Finset (DevRef τ sig)) ⊆ all by decide
theorem hop1 : (op1 (F := F)).bufs ⊆ all := show ({v0', v1'} : Finset (DevRef τ sig)) ⊆ all by decide
theorem hop2 : (op2 (F := F)).bufs ⊆ all := show ({a1', v2'} : Finset (DevRef τ sig)) ⊆ all by decide
theorem hop3 : (op3 (F := F)).bufs ⊆ all := show ({v2', v3'} : Finset (DevRef τ sig)) ⊆ all by decide
theorem hop5 : (op5 (F := F)).bufs ⊆ all := show ({v4', v5'} : Finset (DevRef τ sig)) ⊆ all by decide
theorem hop6 : (op6 (F := F)).bufs ⊆ all := show ({v5', v6'} : Finset (DevRef τ sig)) ⊆ all by decide

omit [FloatOps F] in
/-- The call's arrays apart from the rest. -/
theorem held_all (d : Dev nD) (W : Valuation τ sig (Elt F)) :
    (held (T d) all W : sProp 𝕄)
      = iprop(((SparseCore.T d).loc main_v1 ↦{fullShare} W v1') ∗ ((SparseCore.T d).loc main_v3 ↦{fullShare} W v3')
          ∗ ((SparseCore.T d).loc main_v4 ↦{fullShare} W v4') ∗ held (T d) idle W) := by
  unfold held all
  rw [SparseCore.bigSep_insert' (by decide), SparseCore.bigSep_insert' (by decide), SparseCore.bigSep_insert' (by decide)]

omit [FloatOps F] in
theorem held_idle (d : Dev nD) (W : Valuation τ sig (Elt F)) :
    (held (T d) idle W : sProp 𝕄)
      = iprop(((SparseCore.T d).loc main_arg0 ↦{fullShare} W a0') ∗ ((SparseCore.T d).loc main_arg1 ↦{fullShare} W a1')
          ∗ ((SparseCore.T d).loc main_v0 ↦{fullShare} W v0') ∗ ((SparseCore.T d).loc main_v2 ↦{fullShare} W v2')
          ∗ ((SparseCore.T d).loc main_v5 ↦{fullShare} W v5') ∗ (SparseCore.T d).loc main_v6 ↦{fullShare} W v6') := by
  unfold held idle
  rw [SparseCore.bigSep_insert' (by decide), SparseCore.bigSep_insert' (by decide), SparseCore.bigSep_insert' (by decide),
    SparseCore.bigSep_insert' (by decide), SparseCore.bigSep_insert' (by decide), bigSep_singleton]

section Run

variable (m : (ℓ : Loc nD τ sig) → Buf (Elt F) ℓ) (ρ : Dev nD → PrngReg)

def V0 (d : Dev nD) : Valuation τ sig (Elt F) := fun b => m (d, b)

omit [FloatOps F] in
theorem unscoped_held (d : Dev nD) : (unscopedBufs d (fun b => m ((SparseCore.T d).loc b)) : sProp 𝕄) = held (T d) all (V0 m d) := by
  rw [held_all, held_idle]
  unfold unscopedBufs
  rw [show (Finset.univ.filter fun b : Ref sig .tc => ¬ b.isScoped)
      = {main_v1, main_v3, main_v4, main_arg0, main_arg1, main_v0, main_v2, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The arrays before the call, -/
def V4 (d : Dev nD) : Valuation τ sig (Elt F) := (op3 (F := F)).result ((op2 (F := F)).result ((op1 (F := F)).result ((op0 (F := F)).result (V0 m d))))
/-- the call's two operands, -/
def XA (d : Dev nD) : S50176x384.Idx → Elt F .f32 := V4 m d v1'
def XB (d : Dev nD) : S50176x384.Idx → Elt F .f32 := V4 m d v3'
/-- the arrays after it, -/
def V5 (d : Dev nD) : Valuation τ sig (Elt F) := Function.update (V4 m d) v4' (mix (XA m d) (XB m d))
/-- and at the end. -/
def V7 (d : Dev nD) : Valuation τ sig (Elt F) := (op6 (F := F)).result ((op5 (F := F)).result (V5 m d))

/-- An array held by the program is the same array held by a tile. -/
theorem lend_a (d : Dev nD) (f : S50176x384.Idx → Elt F .f32) :
    ((SparseCore.T d).loc main_v1 ↦{fullShare} f : sProp 𝕄) = owns (V d 0 0) aW fullShare f := (owns_whole _ _ _ _).symm
theorem lend_b (d : Dev nD) (f : S50176x384.Idx → Elt F .f32) :
    ((SparseCore.T d).loc main_v3 ↦{fullShare} f : sProp 𝕄) = owns (V d 0 0) bW fullShare f := (owns_whole _ _ _ _).symm
theorem lend_o (d : Dev nD) (f : S50176x384.Idx → Elt F .f32) :
    ((SparseCore.T d).loc main_v4 ↦{fullShare} f : sProp 𝕄) = owns (V d 0 0) oW fullShare f := (owns_whole _ _ _ _).symm

/-- What the call takes from the program's arrays, -/
theorem before (d : Dev nD) :
    (held (T d) all (V4 m d) : sProp 𝕄)
      ⊢ iprop((bigSep Finset.univ fun c : Fin ((K (F := F)).nCore 0) => (P (XA m) (XB m)).st 0 d c) ∗ held (T d) idle (V4 m d)) := by
  rw [held_all, show V4 m d v1' = XA m d from rfl, show V4 m d v3' = XB m d from rfl]
  iintro ⟨HA, HB, HO, Hr⟩
  ihave HA := (Entails.of_eq (lend_a d (XA m d))) $$ HA
  ihave HB := (Entails.of_eq (lend_b d (XB m d))) $$ HB
  ihave HO := (Entails.of_eq (lend_o d (V4 m d v4'))) $$ HO
  isplitr [Hr]
  · iapply (deal d (XA m) (XB m) (V4 m d v4'))
    isplitl [HA]; · iexact HA
    isplitl [HB]; · iexact HB
    iexact HO
  · iexact Hr

theorem V5_of_ne (d : Dev nD) {b : DevRef τ sig} (h : b ≠ v4') : V5 m d b = V4 m d b := Function.update_of_ne h _ _

theorem idle_V5 (d : Dev nD) : (held (T d) idle (V5 m d) : sProp 𝕄) = held (T d) idle (V4 m d) := by
  rw [held_idle, held_idle, V5_of_ne m d (by decide), V5_of_ne m d (by decide), V5_of_ne m d (by decide), V5_of_ne m d (by decide),
    V5_of_ne m d (by decide), V5_of_ne m d (by decide)]

/-- and what it gives back. -/
theorem after_call [∀ e, Nonempty (Elt F e)] (d : Dev nD) :
    iprop((bigSep Finset.univ fun c : Fin ((K (F := F)).nCore 0) => (P (XA m) (XB m)).dn 0 d c) ∗ held (T d) idle (V4 m d))
      ⊢ (held (T d) all (V5 m d) : sProp 𝕄) := by
  rw [held_all, idle_V5, V5_of_ne m d (show v1' ≠ v4' by decide), V5_of_ne m d (show v3' ≠ v4' by decide),
    show V5 m d v4' = mix (XA m d) (XB m d) from Function.update_self _ _ _]
  iintro ⟨Hdn, Hr⟩
  ihave H := (collect d (XA m) (XB m)) $$ Hdn
  icases H with ⟨HA, HB, HO⟩
  ihave HA := (Entails.of_eq (lend_a d (XA m d)).symm) $$ HA
  ihave HB := (Entails.of_eq (lend_b d (XB m d)).symm) $$ HB
  ihave HO := (Entails.of_eq (lend_o d (mix (XA m d) (XB m d))).symm) $$ HO
  isplitl [HA]; · iexact HA
  isplitl [HB]; · iexact HB
  isplitl [HO]; · iexact HO
  iexact Hr

/-- What the program leaves: the two arguments as they were, and its result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v6 ↦{fullShare} V7 m d v6')

theorem V4_arg (d : Dev nD) {r : Ref sig .tc} (h0 : r ≠ main_v0) (h1 : r ≠ main_v1) (h2 : r ≠ main_v2) (h3 : r ≠ main_v3) :
    V4 m d (Proc.devRef .tc r) = m (d, Proc.devRef .tc r) := by
  unfold V4
  rw [StableHlo.reshape_result_ne _ _ _ _ _ _ _ h3, StableHlo.unary_result_ne _ _ _ _ _ _ h2, StableHlo.reshape_result_ne _ _ _ _ _ _ _ h1,
    StableHlo.unary_result_ne _ _ _ _ _ _ h0]
  rfl

theorem V7_arg (d : Dev nD) {r : Ref sig .tc} (h0 : r ≠ main_v0) (h1 : r ≠ main_v1) (h2 : r ≠ main_v2) (h3 : r ≠ main_v3) (h4 : r ≠ main_v4)
    (h5 : r ≠ main_v5) (h6 : r ≠ main_v6) : V7 m d (Proc.devRef .tc r) = m (d, Proc.devRef .tc r) := by
  unfold V7
  rw [StableHlo.unary_result_ne _ _ _ _ _ _ h6, StableHlo.reshape_result_ne _ _ _ _ _ _ _ h5, V5_of_ne m d (StableHlo.devRef_ne_of_ne h4), V4_arg m d h0 h1 h2 h3]

theorem final (d : Dev nD) : (held (T d) all (V7 m d) : sProp 𝕄) ⊢ FIN m d := by
  rw [held_all, held_idle, V7_arg m d (r := main_arg0) (by decide) (by decide) (by decide) (by decide) (by decide) (by decide) (by decide),
    V7_arg m d (r := main_arg1) (by decide) (by decide) (by decide) (by decide) (by decide) (by decide) (by decide)]
  unfold FIN
  iintro ⟨-, -, -, H0, H1, -, -, -, H6⟩
  isplitl [H0]; · iexact H0
  isplitl [H1]; · iexact H1
  iexact H6

/-- The program on the device's main thread. -/
theorem hmain [∀ e, Nonempty (Elt F e)] (κ : GSem nD τ sig → ℕ) (d : Dev nD) :
    iprop((K (F := F)).ctx EH (P (XA m) (XB m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := all) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := all) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := all) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := all) hop3 (V := (op2 (F := F)).result ((op1 (F := F)).result ((op0 (F := F)).result (V0 m d))))) $$ [Hb Hheld]
  · isplitl [Hb] <;> iassumption
  iintro ⟨Hb, Hheld⟩
  rw [wp_ret]; imodintro
  ihave Hheld := (Entails.of_eq (show (held (T d) all ((op3 (F := F)).result ((op2 (F := F)).result ((op1 (F := F)).result ((op0 (F := F)).result (V0 m d))))) : sProp 𝕄)
    = held (T d) all (V4 m d) from rfl)) $$ Hheld
  ihave Hh := (before m d) $$ Hheld
  icases Hh with ⟨Hin, Hidle⟩
  iapply ((K (F := F)).wp_run (D (F := F)) 𝒱 (EH := EH) (P := P (XA m) (XB m)) κ d 0) $$ [Hst Hin Hidle Hb Hts]
  isplitr; · iexact Hctx
  isplitl [Hst]; · iexact Hst
  isplitl [Hin]; · iexact Hin
  iintro ⟨Hst, Hdn⟩
  ihave Hheld := (after_call m d) $$ [Hdn Hidle]
  · isplitl [Hdn] <;> iassumption
  iapply (wp_hlo_within 𝒱 (SparseCore.T d) none Set.univ (op := op5) (S := all) hop5 (V := V5 m d)) $$ [Hb Hheld]
  · isplitl [Hb] <;> iassumption
  iintro ⟨Hb, Hheld⟩
  rw [wp_ret]; imodintro
  iapply (wp_hlo_within 𝒱 (SparseCore.T d) none Set.univ (op := op6) (S := all) hop6 (V := (op5 (F := F)).result (V5 m d))) $$ [Hb Hheld]
  · isplitl [Hb] <;> iassumption
  iintro ⟨Hb, Hheld⟩
  ihave Hheld := (Entails.of_eq (show (held (T d) all ((op6 (F := F)).result ((op5 (F := F)).result (V5 m d))) : sProp 𝕄) = held (T d) all (V7 m d) from rfl)) $$ Hheld
  ihave Hf := (final m d) $$ Hheld
  rw [wp_ret]; imodintro; imodintro
  isplitl [Hst]; · iexact Hst
  isplitl [Hf]; · iexact Hf
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v6) = V7 m d v6'

theorem hfin (d : Dev nD) (s' : Phys nD τ sig (Elt F)) : iprop(FIN m d ∗ SI s') ⊢ (⌜fq m d s'⌝ : sProp 𝕄) := by
  unfold FIN
  iintro ⟨⟨H0, H1, H6⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v6) (I := Finset.univ) (q := fullShare) (f := V7 m d v6')) $$ [HSI H6]
  · isplitl [HSI] <;> iassumption
  icases H with %h6
  ipureintro
  exact ⟨funext fun i => h0 i (Finset.mem_univ i), funext fun i => h1 i (Finset.mem_univ i), funext fun i => h6 i (Finset.mem_univ i)⟩

/-! ## The run -/

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v6) = V7 m d v6') ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XA m) (XB m)) (A := ∅) facts v₀
    (fun q hq => match q with | 0 => nomatch hq)
    (fun q _ => match q with | 0 => tileObl (XA m) (XB m) facts)
    (fun q _ => match q with | 0 => SparseCore.Cfg.VecSplit.of_plain (vecSplit (XA m) (XB m)))
    m ρ main (fun _ => iprop(emp)) (FIN m) (u₀ (F := F)) (sep_elim_left.trans (hu₀ (XA m) (XB m))) (hmain m ρ) (fq m) (hfin m) (QC m) (fun _ h hz => ⟨h, hz⟩)

end Run

end Cert.Proof.KernelIdeal

end
-- ==== Proof.Reference.lean ====
/-
  The reference read at an index: its two index lists are the even and the odd channels, its takes read those channels,
  its two writes lay them side by side, and the sum of the two arrays is one or the other.
-/
module

public import proofs.«01_k».proof.Proof.Gen.ReferenceIdeal.Run
public import Idealize.ShloMosaic.Lib.Pipeline.Value
public import Idealize.ShloMosaic.Lib.ReduceAll
public import Idealize.ShloMosaic.Lib.WordCmp
public import Idealize.ShloMosaic.Lib.Routing.OpsPair
public import Idealize.ShloMosaic.Lib.Routing.OpsSet
public import Idealize.ShloMosaic.PureOps.Ideal.Laws

@[expose] public section

noncomputable section

namespace Cert.Proof.Reference

open Cert.ReferenceIdeal Cert.ReferenceIdeal.Gen Cert.ReferenceIdeal.Value
open Idealize.ShloMosaic Idealize.ShloMosaic.ValueIdx Idealize.SL.Sem

/-- Abbreviations for the two arrangements the reference's gathers and scatters use. -/
abbrev gd := gather_S16x384x56x56_S192x1_S16x192x56x56_023_1_n_n_1_1_1615656
abbrev sd := scatter_S16x384x56x56_S192x1_S16x192x56x56_023_1_1_1

/-! ## The index lists -/

/-- The list of 192 copies of one word. -/
abbrev fill (c : BitVec 32) : IVec S192 32 := broadcastInDim S192 ![] bcast_S_S192 (constantI S_ 32 c)

/-- A list of channel numbers as a column, its negative entries counted from the end. -/
def column (v : IVec S192 32) : IVec S192x1 32 :=
  broadcastInDim S192x1 ![0] bcast_S192_S192x1_0 (select (cmpi .slt v (fill 0#32)) (addi v (fill 384#32)) v)

/-- The list holds the channel numbers `f`, -/
def Lists (v : IVec S192 32) (f : ℕ → ℕ) : Prop := ∀ k : Fin 192, v (ix1 k) = BitVec.ofNat 32 (f k.val)

/-- in which case so does its column, no number being negative. -/
theorem column_at {v : IVec S192 32} {f : ℕ → ℕ} (hv : Lists v f) (hf : ∀ k, k < 192 → f k < 384) (p : S192x1.Idx) :
    column v p = BitVec.ofNat 32 (f (p 0).val) := by
  have hp : (p 0).val < 192 := (p 0).isLt
  unfold column
  refine (broadcastInDim_apply ![0] bcast_S192_S192x1_0 _ p (ix1 (p 0)) fun a => by
    match a with
    | ⟨0, _⟩ => rfl).trans ?_
  have h : v (ix1 (p 0)) = BitVec.ofNat 32 (f (p 0).val) := hv (p 0)
  refine (Routing.wrap_of_lt (v (ix1 (p 0))) _ ?_).trans h
  rw [h, BitVec.toNat_ofNat]
  have := hf _ hp
  omega

/-- The numbers 0, 1, 2, …, -/
theorem lists_iota : Lists (iotaInDim S192 32 0) fun k => k := fun _ => rfl
/-- those from 192 on, -/
theorem lists_shift : Lists (addi (fill 192#32) (iotaInDim S192 32 0)) fun k => 192 + k :=
  fun k => WordCmp.addi_ofNat (w := 32) 192 k.val
/-- the even ones and the odd ones. -/
theorem lists_stride (c : ℕ) : Lists (addi (fill (BitVec.ofNat 32 c)) (muli (fill 2#32) (iotaInDim S192 32 0))) fun k => c + 2 * k :=
  fun k => (congrArg (IntOp.addi (BitVec.ofNat 32 c)) (WordCmp.muli_ofNat (w := 32) 2 k.val)).trans (WordCmp.addi_ofNat (w := 32) c (2 * k.val))

/-! ## Taking channels -/

/-- The element a take reads. -/
theorem gather_at {α : Type} (x : S16x384x56x56.Idx → α) {idx : IVec S192x1 32} {f : ℕ → ℕ}
    (hidx : ∀ p, idx p = BitVec.ofNat 32 (f (p 0).val)) (hf : ∀ k, k < 192 → f k < 384)
    (n : Fin 16) (c : Fin 192) (h w : Fin 56) :
    Host.gather gd x idx (ix4 n c h w) = x (ix4 n ⟨f c.val, hf _ c.isLt⟩ h w) := by
  have hc := hf _ c.isLt
  have hsi : ∀ q, (gd.siIdx (ix4 n c h w) q) 0 = c := fun q => rfl
  refine congrArg x (funext fun a => Fin.ext ?_)
  match a with
  | ⟨0, _⟩ => exact Nat.zero_add _
  | ⟨1, _⟩ =>
    show min (idx (gd.siIdx (ix4 n c h w) ⟨0, _⟩)).toInt.toNat (384 - 1) + 0 + 0 = f c.val
    rw [hidx, hsi, WordCmp.toInt_ofNat_of_lt (by omega)]
    omega
  | ⟨2, _⟩ => exact Nat.zero_add _
  | ⟨3, _⟩ => exact Nat.zero_add _

variable {F : FTy → Type} [FloatOps F]

/-- The reference's take: the gather where the channel number is in range, a fixed word where it is not. -/
def take (x : FVec F S16x384x56x56 .f32) (v : IVec S192 32) : FVec F S16x192x56x56 .f32 :=
  select (broadcastInDim S16x192x56x56 ![1] bcast_S192_S16x192x56x56_1
      (Host.reduce IntOp.andi (andi (cmpi .sge (column v) (broadcastInDim S192x1 ![] bcast_S_S192x1 (constantI S_ 32 0#32)))
        (cmpi .sle (column v) (broadcastInDim S192x1 ![0, 1] bcast_S1x1_S192x1_0_1 (broadcastInDim S1x1 ![1] bcast_S1_S1x1_1 (constantI S1 32 383#32)))))
        (constantI S_ 1 1#1) reducesTo_S192x1_S192_d1 h_S_))
    (Host.gather gd x (column v)) (broadcastInDim S16x192x56x56 ![] bcast_S_S16x192x56x56 (constant S_ .f32 0x7FC00000#32))

theorem take_at (x : FVec F S16x384x56x56 .f32) {v : IVec S192 32} {f : ℕ → ℕ} (hv : Lists v f) (hf : ∀ k, k < 192 → f k < 384)
    (n : Fin 16) (c : Fin 192) (h w : Fin 56) : take x v (ix4 n c h w) = x (ix4 n ⟨f c.val, hf _ c.isLt⟩ h w) := by
  refine (WordCmp.select_of_eq_one ?_ _ _).trans (gather_at x (column_at hv hf) hf n c h w)
  refine (broadcastInDim_apply ![1] bcast_S192_S16x192x56x56_1 _ (ix4 n c h w) (ix1 c) fun a => by
    match a with
    | ⟨0, _⟩ => rfl).trans ?_
  refine Host.reduce_andi_one _ _ reducesTo_S192x1_S192_d1 h_S_ _ rfl fun p => ?_
  have hp := hf _ (p 0).isLt
  show IntOp.andi (IntOp.cmpi .sge (column v p) (BitVec.ofNat 32 0)) (IntOp.cmpi .sle (column v p) (BitVec.ofNat 32 383)) = 1#1
  rw [column_at hv hf p, (WordCmp.cmpi_sge_ofNat_eq_one_iff (by omega) (by omega)).2 (by omega),
    (WordCmp.cmpi_sle_ofNat_eq_one_iff (by omega) (by omega)).2 (by omega)]
  rfl

/-! ## Writing channels -/

/-- Where an element of a write lands. -/
theorem lands {idx : IVec S192x1 32} {b : ℕ} (hb : b ≤ 192) (hidx : ∀ p, idx p = BitVec.ofNat 32 (b + (p 0).val))
    (n n' : Fin 16) (c : Fin 192) (c' : Fin 384) (h h' w w' : Fin 56) :
    sd.resultIdx? (ix4 n c h w) idx = some (ix4 n' c' h' w') ↔ n = n' ∧ b + c.val = c'.val ∧ h = h' ∧ w = w' := by
  have hsi : ∀ q, (sd.siIdx (ix4 n c h w) q) 0 = c := fun q => rfl
  have hs : sd.start (ix4 n c h w) idx 1 = ((b + c.val : ℕ) : Int) := by
    have := c.isLt
    show (idx (sd.siIdx (ix4 n c h w) ⟨0, _⟩)).toInt = _
    rw [hidx, hsi, WordCmp.toInt_ofNat_of_lt (by omega)]
  have h0 : sd.start (ix4 n c h w) idx 0 + (sd.window (ix4 n c h w) 0 : Int) = (n.val : Int) := Int.zero_add _
  have h1 : sd.start (ix4 n c h w) idx 1 + (sd.window (ix4 n c h w) 1 : Int) = ((b + c.val : ℕ) : Int) := (Int.add_zero _).trans hs
  have h2 : sd.start (ix4 n c h w) idx 2 + (sd.window (ix4 n c h w) 2 : Int) = (h.val : Int) := Int.zero_add _
  have h3 : sd.start (ix4 n c h w) idx 3 + (sd.window (ix4 n c h w) 3 : Int) = (w.val : Int) := Int.zero_add _
  rw [Routing.resultIdx?_eq_some]
  constructor
  · intro e
    exact ⟨Fin.ext (Int.ofNat.inj (h0.symm.trans (e 0))), Int.ofNat.inj (h1.symm.trans (e 1)),
      Fin.ext (Int.ofNat.inj (h2.symm.trans (e 2))), Fin.ext (Int.ofNat.inj (h3.symm.trans (e 3)))⟩
  · rintro ⟨rfl, e, rfl, rfl⟩ a
    match a with
    | ⟨0, _⟩ => exact h0
    | ⟨1, _⟩ => exact h1.trans (congrArg Int.ofNat e)
    | ⟨2, _⟩ => exact h2
    | ⟨3, _⟩ => exact h3

/-- The reference's write of 192 channels into an array of zeros. -/
def put (v : IVec S192 32) (u : FVec F S16x192x56x56 .f32) : FVec F S16x384x56x56 .f32 :=
  Host.scatter sd (fun _ b => b) (broadcastInDim S16x384x56x56 ![] bcast_S_S16x384x56x56 (constant S_ .f32 0x00000000#32)) (column v) u

variable {v : IVec S192 32} {b : ℕ} (hv : Lists v fun k => b + k) (hb : b ≤ 192) (u : FVec F S16x192x56x56 .f32)
include hv hb

/-- A channel that the write covers, -/
theorem put_hit (n : Fin 16) (c : Fin 384) (h w : Fin 56) (k : Fin 192) (hk : b + k.val = c.val) : put v u (ix4 n c h w) = u (ix4 n k h w) := by
  have hcol := column_at hv fun k hk => by omega
  refine Routing.scatter_set_hit sd _ (column v) u _ _ (fun j hj => ?_) (ix4 n k h w) ((lands hb hcol n n k c h h w w).2 ⟨rfl, hk, rfl, rfl⟩)
  rw [eq_ix4 j] at hj ⊢
  obtain ⟨e0, e1, e2, e3⟩ := (lands hb hcol _ _ _ _ _ _ _ _).1 hj
  rw [e0, e2, e3, show j 1 = k from Fin.ext (by have : b + (j 1).val = c.val := e1; omega)]
  rfl

/-- and one it does not. -/
theorem put_miss (n : Fin 16) (c : Fin 384) (h w : Fin 56) (hc : ∀ k : Fin 192, b + k.val ≠ c.val) :
    put v u (ix4 n c h w) = FloatOps.ofBits .f32 0x00000000#32 := by
  have hcol := column_at hv fun k hk => by omega
  refine (Routing.scatter_set_miss sd _ (column v) u _ fun j hj => ?_).trans rfl
  rw [eq_ix4 j] at hj
  exact hc _ ((lands hb hcol _ _ _ _ _ _ _ _).1 hj).2.1

/-! ## The result -/

omit hv hb in
/-- The reference's result: the two takes, written side by side, and added. -/
theorem out_eq (m : (ℓ : Loc nD τ sig) → Buf (Elt F) ℓ) (d : Dev nD) :
    res_out0 m d
      = addf (put (iotaInDim S192 32 0) (take (m ((d.tc : Thread nD τ).loc main_arg0)) (addi (fill 0#32) (muli (fill 2#32) (iotaInDim S192 32 0)))))
          (put (addi (fill 192#32) (iotaInDim S192 32 0))
            (take (m ((d.tc : Thread nD τ).loc main_arg1)) (addi (fill 1#32) (muli (fill 2#32) (iotaInDim S192 32 0))))) := by
  unfold res_out0 res_main_v32
  rfl

omit [FloatOps F] hv hb u in
/-- The first list starts at 0. -/
theorem lists_first : Lists (iotaInDim S192 32 0) fun k => 0 + k := fun k => congrArg (BitVec.ofNat 32) (Nat.zero_add k.val).symm

end Cert.Proof.Reference

namespace Cert.Proof.Reference

open Cert.ReferenceIdeal Cert.ReferenceIdeal.Gen Cert.ReferenceIdeal.Value
open Idealize.ShloMosaic Idealize.ShloMosaic.ValueIdx Idealize.SL.Sem

/-- A sum whose second summand is the zero word, -/
theorem sum_left {X Y : FVec Ideal S16x384x56x56 .f32} {i : S16x384x56x56.Idx} {a : Ideal .f32} (hX : X i = a)
    (hY : Y i = FloatOps.ofBits (F := Ideal) .f32 0x00000000#32) : addf X Y i = a := by
  show (X i + Y i : EReal) = a
  rw [hX, hY]
  exact (congrArg (fun q : EReal => (a : EReal) + q) Ideal.ofBits_zero_f32).trans (add_zero _)

/-- and one whose first is. -/
theorem sum_right {X Y : FVec Ideal S16x384x56x56 .f32} {i : S16x384x56x56.Idx} {a : Ideal .f32}
    (hX : X i = FloatOps.ofBits (F := Ideal) .f32 0x00000000#32) (hY : Y i = a) : addf X Y i = a := by
  show (X i + Y i : EReal) = a
  rw [hX, hY]
  exact (congrArg (fun q : EReal => q + (a : EReal)) Ideal.ofBits_zero_f32).trans (zero_add _)

variable (m : (ℓ : Loc nD τ sig) → Buf (Elt Ideal) ℓ) (d : Dev nD) (n : Fin 16) (c : Fin 384) (h w : Fin 56)

/-- The arguments. -/
def argA : FVec Ideal S16x384x56x56 .f32 := m ((d.tc : Thread nD τ).loc main_arg0)
def argB : FVec Ideal S16x384x56x56 .f32 := m ((d.tc : Thread nD τ).loc main_arg1)
/-- The result. -/
def out : FVec Ideal S16x384x56x56 .f32 := res_out0 m d

theorem out_sum : out m d
    = addf (put (iotaInDim S192 32 0) (take (argA m d) (addi (fill (BitVec.ofNat 32 0)) (muli (fill 2#32) (iotaInDim S192 32 0)))))
        (put (addi (fill 192#32) (iotaInDim S192 32 0)) (take (argB m d) (addi (fill (BitVec.ofNat 32 1)) (muli (fill 2#32) (iotaInDim S192 32 0))))) :=
  out_eq m d

/-- In the first half of the channels, the even channels of the first argument; -/
theorem out_low (hc : c.val < 192) : out m d (ix4 n c h w) = argA m d (ix4 n ⟨2 * c.val, by omega⟩ h w) := by
  rw [out_sum]
  refine sum_left ?_ (put_miss lists_shift (by omega) _ n c h w fun k => by omega)
  rw [put_hit lists_first (by omega) _ n c h w ⟨c.val, hc⟩ (Nat.zero_add _), take_at _ (lists_stride 0) (fun k hk => by omega)]
  exact congrArg (fun q => argA m d (ix4 n q h w)) (Fin.ext (Nat.zero_add _))

/-- in the second, the odd channels of the second. -/
theorem out_high (hc : ¬ c.val < 192) :
    out m d (ix4 n c h w) = argB m d (ix4 n ⟨2 * (c.val - 192) + 1, by have := c.isLt; omega⟩ h w) := by
  have := c.isLt
  rw [out_sum]
  refine sum_right (put_miss lists_first (by omega) _ n c h w fun k => by have := k.isLt; omega) ?_
  rw [put_hit lists_shift (by omega) _ n c h w ⟨c.val - 192, by omega⟩ (by show 192 + (c.val - 192) = c.val; omega),
    take_at _ (lists_stride 1) (fun k hk => by omega)]
  exact congrArg (fun q => argB m d (ix4 n q h w)) (Fin.ext (Nat.add_comm _ _))

end Cert.Proof.Reference

end
-- ==== Proof.Value.lean ====
/-
  The kernel's result read at an index: the arguments laid out channels last, a row for each place of each image, the
  channels picked along the rows, and the rows laid back out. It is the reference's.
-/
module

public import proofs.«01_k».proof.Proof.KernelIdeal.Main
public import proofs.«01_k».proof.Proof.Reference

@[expose] public section

noncomputable section

namespace Cert.Proof.KernelIdeal

open Cert.KernelIdeal Cert.KernelIdeal.Gen
open Idealize.ShloMosaic Idealize.ShloMosaic.ValueIdx Idealize.SL.Sem

/-! ## The layout -/

section Layout

variable {F : FTy → Type}

/-- The row of a place. -/
def row (n : Fin 16) (h w : Fin 56) : Fin 50176 := ⟨(n.val * 56 + h.val) * 56 + w.val, by omega⟩

/-- An argument laid out in rows. -/
def rows (x : S16x384x56x56.Idx → Elt F .f32) : S50176x384.Idx → Elt F .f32 :=
  shapeCast S50176x384 (toLast (F := F) x) shapeCasts_S16x56x56x384_S50176x384

/-- Rows laid back out. -/
def images (y : S50176x384.Idx → Elt F .f32) : S16x384x56x56.Idx → Elt F .f32 :=
  toFirst (F := F) (shapeCast S16x56x56x384 y shapeCasts_S50176x384_S16x56x56x384)

/-- A row's entry and the entry of the array with channels last stand at one position. -/
theorem position (n : Fin 16) (h w : Fin 56) (c : Fin 384) :
    ((S16x56x56x384 : Shape).rowMajor (ix4 n h w c)).val = ((S50176x384 : Shape).rowMajor (ix2 (row n h w) c)).val := by
  rw [Shape.rowMajor_val_two, Shape.rowMajor_val_four]
  rfl

theorem rows_at (x : S16x384x56x56.Idx → Elt F .f32) (n : Fin 16) (h w : Fin 56) (c : Fin 384) :
    rows x (ix2 (row n h w) c) = x (ix4 n c h w) := by
  refine (shapeCast_apply _ shapeCasts_S16x56x56x384_S50176x384 (ix2 (row n h w) c) (ix4 n h w c) (position n h w c)).trans ?_
  refine transpose_apply _ x transposes_S16x384x56x56_S16x56x56x384_0_2_3_1 (ix4 n h w c) (ix4 n c h w) fun b => ?_
  match b with
  | ⟨0, _⟩ => rfl
  | ⟨1, _⟩ => rfl
  | ⟨2, _⟩ => rfl
  | ⟨3, _⟩ => rfl

theorem images_at (y : S50176x384.Idx → Elt F .f32) (n : Fin 16) (c : Fin 384) (h w : Fin 56) :
    images y (ix4 n c h w) = y (ix2 (row n h w) c) := by
  refine (transpose_apply _ _ transposes_S16x56x56x384_S16x384x56x56_0_3_1_2 (ix4 n c h w) (ix4 n h w c) fun b => ?_).trans
    (shapeCast_apply y shapeCasts_S50176x384_S16x56x56x384 (ix4 n h w c) (ix2 (row n h w) c) (position n h w c).symm)
  match b with
  | ⟨0, _⟩ => rfl
  | ⟨1, _⟩ => rfl
  | ⟨2, _⟩ => rfl
  | ⟨3, _⟩ => rfl

end Layout

/-! ## The arrays the program leaves -/

variable (m : (ℓ : Loc nD τ sig) → Buf (Elt Ideal) ℓ) (d : Dev nD)

/-- The arguments. -/
def argA : S16x384x56x56.Idx → Elt Ideal .f32 := m ((SparseCore.T d).loc main_arg0)
def argB : S16x384x56x56.Idx → Elt Ideal .f32 := m ((SparseCore.T d).loc main_arg1)

theorem XA_eq : XA m d = rows (argA m d) := by
  unfold XA V4
  rw [StableHlo.reshape_result_ne _ _ _ _ _ _ _ (show main_v1 ≠ main_v3 by decide),
    StableHlo.unary_result_ne _ _ _ _ _ _ (show main_v1 ≠ main_v2 by decide), StableHlo.reshape_result', StableHlo.unary_result]
  rfl

theorem XB_eq : XB m d = rows (argB m d) := by
  unfold XB V4
  rw [StableHlo.reshape_result', StableHlo.unary_result, StableHlo.reshape_result_ne _ _ _ _ _ _ _ (show main_arg1 ≠ main_v1 by decide),
    StableHlo.unary_result_ne _ _ _ _ _ _ (show main_arg1 ≠ main_v0 by decide)]
  rfl

theorem V7_out : V7 m d v6' = images (F := Ideal) (mix (rows (F := Ideal) (argA m d)) (rows (F := Ideal) (argB m d))) := by
  unfold V7
  rw [StableHlo.unary_result, StableHlo.reshape_result', ← XA_eq, ← XB_eq]
  unfold V5
  rw [Function.update_self]
  rfl

/-- A row of the mix, in its first half, -/
theorem mix_low {α : Type} (A B : S50176x384.Idx → α) (r : Fin 50176) (c : Fin 384) (hc : c.val < 192) :
    mix A B (ix2 r c) = A (ix2 r ⟨2 * c.val, by omega⟩) := dif_pos hc
/-- and in its second. -/
theorem mix_high {α : Type} (A B : S50176x384.Idx → α) (r : Fin 50176) (c : Fin 384) (hc : ¬ c.val < 192) :
    mix A B (ix2 r c) = B (ix2 r ⟨2 * (c.val - 192) + 1, by have := c.isLt; omega⟩) := dif_neg hc

/-- **The kernel's result is the reference's** on the same arguments, element by element, -/
theorem result_at (m' : (ℓ : Loc Cert.ReferenceIdeal.nD Cert.ReferenceIdeal.τ Cert.ReferenceIdeal.sig) → Buf (Elt Ideal) ℓ)
    (hA : Reference.argA m' d = argA m d) (hB : Reference.argB m' d = argB m d) (n : Fin 16) (c : Fin 384) (h w : Fin 56) :
    Reference.out m' d (ix4 n c h w) = images (F := Ideal) (mix (rows (F := Ideal) (argA m d)) (rows (F := Ideal) (argB m d))) (ix4 n c h w) := by
  refine Eq.trans ?_ (images_at (F := Ideal) _ n c h w).symm
  by_cases hc : c.val < 192
  · exact ((Reference.out_low m' d n c h w hc).trans (congrFun hA _)).trans ((mix_low _ _ _ c hc).trans (rows_at (F := Ideal) _ n h w _)).symm
  · exact ((Reference.out_high m' d n c h w hc).trans (congrFun hB _)).trans ((mix_high _ _ _ c hc).trans (rows_at (F := Ideal) _ n h w _)).symm

/-- and whole. -/
theorem result_eq (m' : (ℓ : Loc Cert.ReferenceIdeal.nD Cert.ReferenceIdeal.τ Cert.ReferenceIdeal.sig) → Buf (Elt Ideal) ℓ)
    (hA : Reference.argA m' d = argA m d) (hB : Reference.argB m' d = argB m d) : Reference.out m' d = V7 m d v6' := by
  refine Eq.trans (funext fun i => ?_) (V7_out m d).symm
  obtain ⟨n, c, h, w, rfl⟩ : ∃ (n : Fin 16) (c : Fin 384) (h w : Fin 56), i = ix4 n c h w := ⟨i 0, i 1, i 2, i 3, eq_ix4 i⟩
  exact result_at m d m' hA hB n c h w

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame, -/
theorem frame_kernel : Cert.quiescent_Kernel := fun m ρ _ =>
  (θ_run Cert.Kernel.defs _ _).mono (fun _ h => ⟨fun c => ⟨(h.1 c).1, (h.1 c).2.1⟩, h.2⟩) (Cert.Proof.Kernel.run_main (F := Bits) m ρ)

/-- the same over the extended reals, -/
theorem frame_ideal : Cert.quiescent_KernelIdeal := fun m ρ _ =>
  (θ_run Cert.KernelIdeal.defs _ _).mono (fun _ h => ⟨fun c => ⟨(h.1 c).1, (h.1 c).2.1⟩, h.2⟩) (Cert.Proof.KernelIdeal.run_main (F := Ideal) m ρ)

/-- and the reference's: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem algebraic : Cert.algebraic_KernelIdeal_ReferenceIdeal := fun m g m' g' _ hargs =>
  ⟨fun c => Cert.Proof.KernelIdeal.V7 m c Cert.Proof.KernelIdeal.v6',
    (θ_run Cert.KernelIdeal.defs _ _).mono (fun _ h c => ⟨(h.1 c).2.2, (h.1 c).1, (h.1 c).2.1⟩) (Cert.Proof.KernelIdeal.run_main (F := Ideal) m g),
    (θ_run Cert.ReferenceIdeal.defs _ _).mono
      (fun _ h c => ⟨(h c).1.trans (Cert.Proof.KernelIdeal.result_eq m c m' (hargs c).1 (hargs c).2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
